-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v26_0) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096x2048 : Shape := ⟨3, ![16, 4096, 2048]⟩
abbrev S256x256 : Shape := ⟨2, ![256, 256]⟩
abbrev S65536x2048 : Shape := ⟨2, ![65536, 2048]⟩
abbrev S8x128 : Shape := ⟨2, ![8, 128]⟩
abbrev S512x2048 : Shape := ⟨2, ![512, 2048]⟩
abbrev S64x2048 : Shape := ⟨2, ![64, 2048]⟩
abbrev S64x256 : Shape := ⟨2, ![64, 256]⟩
abbrev S512x256 : Shape := ⟨2, ![512, 256]⟩
abbrev S64x128 : Shape := ⟨2, ![64, 128]⟩
abbrev S_ : Shape := ⟨0, ![]⟩
abbrev S1x1 : Shape := ⟨2, ![1, 1]⟩
abbrev S65536x1024 : Shape := ⟨2, ![65536, 1024]⟩
abbrev S65536x128 : Shape := ⟨2, ![65536, 128]⟩
abbrev S512x1024 : Shape := ⟨2, ![512, 1024]⟩
abbrev S512x128 : Shape := ⟨2, ![512, 128]⟩
abbrev S16x128 : Shape := ⟨2, ![16, 128]⟩
abbrev S64x128x1 : Shape := ⟨3, ![64, 128, 1]⟩
abbrev S16x128x1 : Shape := ⟨3, ![16, 128, 1]⟩
abbrev S16x4096x1024 : Shape := ⟨3, ![16, 4096, 1024]⟩
abbrev S16x4096x128 : Shape := ⟨3, ![16, 4096, 128]⟩

abbrev nBuf : Space → Nat
  | .hbm => 17
  | .vmem => 11
  | .smem => 1
  | _ => 0

abbrev bufTy : (tb : Table) → Fin (tcTables nBuf tb) → BufTy
  | .hbm, ⟨0, _⟩ => ⟨S16x4096x2048, .bf16⟩
  | .hbm, ⟨1, _⟩ => ⟨S256x256, .bf16⟩
  | .hbm, ⟨2, _⟩ => ⟨S65536x2048, .bf16⟩
  | .hbm, ⟨3, _⟩ => ⟨S8x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .i1⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x1, .f32⟩
  | .hbm, ⟨13, _⟩ => ⟨S65536x1024, .i8⟩
  | .hbm, ⟨14, _⟩ => ⟨S65536x128, .fp8e4m3⟩
  | .hbm, ⟨15, _⟩ => ⟨S16x4096x1024, .i8⟩
  | .hbm, ⟨16, _⟩ => ⟨S16x4096x128, .fp8e4m3⟩
  | .local _ .vmem, ⟨0, _⟩ => ⟨S512x2048, .bf16⟩
  | .local _ .vmem, ⟨1, _⟩ => ⟨S512x2048, .bf16⟩
  | .local _ .vmem, ⟨2, _⟩ => ⟨S256x256, .bf16⟩
  | .local _ .vmem, ⟨3, _⟩ => ⟨S8x128, .f32⟩
  | .local _ .vmem, ⟨4, _⟩ => ⟨S512x2048, .bf16⟩
  | .local _ .vmem, ⟨5, _⟩ => ⟨S512x2048, .bf16⟩
  | .local _ .vmem, ⟨6, _⟩ => ⟨S256x256, .bf16⟩
  | .local _ .vmem, ⟨7, _⟩ => ⟨S512x1024, .i8⟩
  | .local _ .vmem, ⟨8, _⟩ => ⟨S512x1024, .i8⟩
  | .local _ .vmem, ⟨9, _⟩ => ⟨S512x128, .fp8e4m3⟩
  | .local _ .vmem, ⟨10, _⟩ => ⟨S512x128, .fp8e4m3⟩
  | .local _ .smem, ⟨0, _⟩ => ⟨S1x1, .f32⟩
  | _, _ => ⟨S16x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev main_cst_3 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32_2 : BitVec 32 := 0#32
  let c8_i32 : BitVec 32 := 8#32
  let v5 : BitVec 32 := Scalar.addi c0_i32_2 c8_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg4 : BitVec 32 := Scf.iv c0_i32_2 c1_i32 k0_t1
  let c64_i32 : BitVec 32 := 64#32
  let v8 : BitVec 32 := Scalar.muli arg4 c64_i32
  v8
def k0_off1 (k0_t1 : Fin k0_t1_loop.trips) : Fin 2 → Nat :=
  let c0_i32_2 : BitVec 32 := 0#32
  let c1_i32 : BitVec 32 := 1#32
  let arg4 : BitVec 32 := Scf.iv c0_i32_2 c1_i32 k0_t1
  let c64_i32 : BitVec 32 := 64#32
  let v8 : BitVec 32 := Scalar.muli arg4 c64_i32
  let v9 : BitVec 32 := v8
  let v10 : Index := Scalar.indexCast v9
  let c0_6 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![128], ![false]⟩

@[reducible] def k1_t1_loop : Scf.Loop 32 :=
  let c0_i32_17 : BitVec 32 := 0#32
  let c8_i32_18 : BitVec 32 := 8#32
  let v62 : BitVec 32 := Scalar.addi c0_i32_17 c8_i32_18
  let c1_i32_19 : BitVec 32 := 1#32
  ⟨c0_i32_17, v62, c1_i32_19⟩
def k1_mult1 (k1_t1 : Fin k1_t1_loop.trips) : BitVec 32 :=
  let c0_i32_17 : BitVec 32 := 0#32
  let c1_i32_19 : BitVec 32 := 1#32
  let arg6 : BitVec 32 := Scf.iv c0_i32_17 c1_i32_19 k1_t1
  let c64_i32 : BitVec 32 := 64#32
  let v63 : BitVec 32 := Scalar.muli arg6 c64_i32
  v63
def k1_off1 (k1_t1 : Fin k1_t1_loop.trips) : Fin 2 → Nat :=
  let c0_i32_17 : BitVec 32 := 0#32
  let c1_i32_19 : BitVec 32 := 1#32
  let arg6 : BitVec 32 := Scf.iv c0_i32_17 c1_i32_19 k1_t1
  let c64_i32 : BitVec 32 := 64#32
  let v63 : BitVec 32 := Scalar.muli arg6 c64_i32
  let v64 : BitVec 32 := v63
  let v65 : Index := Scalar.indexCast v64
  let c0_21 : Index := 0#32
  ![v65.toNat, 0]
def k1_off2 (k1_t1 : Fin k1_t1_loop.trips) : Fin 2 → Nat :=
  let c0_i32_17 : BitVec 32 := 0#32
  let c1_i32_19 : BitVec 32 := 1#32
  let arg6 : BitVec 32 := Scf.iv c0_i32_17 c1_i32_19 k1_t1
  let c64_i32 : BitVec 32 := 64#32
  let v63 : BitVec 32 := Scalar.muli arg6 c64_i32
  let v64 : BitVec 32 := v63
  let v196 : Index := Scalar.indexCast v64
  let c0_47 : Index := 0#32
  ![v196.toNat, 0]
def k1_off3 (k1_t1 : Fin k1_t1_loop.trips) : Fin 2 → Nat :=
  let c0_i32_17 : BitVec 32 := 0#32
  let c1_i32_19 : BitVec 32 := 1#32
  let arg6 : BitVec 32 := Scf.iv c0_i32_17 c1_i32_19 k1_t1
  let c64_i32 : BitVec 32 := 64#32
  let v63 : BitVec 32 := Scalar.muli arg6 c64_i32
  let v64 : BitVec 32 := v63
  let v318 : Index := Scalar.indexCast v64
  let c0_81 : Index := 0#32
  ![v318.toNat, 0]
def k1_off4 (k1_t1 : Fin k1_t1_loop.trips) : Fin 2 → Nat :=
  let c0_i32_17 : BitVec 32 := 0#32
  let c1_i32_19 : BitVec 32 := 1#32
  let arg6 : BitVec 32 := Scf.iv c0_i32_17 c1_i32_19 k1_t1
  let c64_i32 : BitVec 32 := 64#32
  let v63 : BitVec 32 := Scalar.muli arg6 c64_i32
  let v64 : BitVec 32 := v63
  let v431 : Index := Scalar.indexCast v64
  let c128 : Index := 128#32
  ![v431.toNat, 128]
def k1_off5 (k1_t1 : Fin k1_t1_loop.trips) : Fin 2 → Nat :=
  let c0_i32_17 : BitVec 32 := 0#32
  let c1_i32_19 : BitVec 32 := 1#32
  let arg6 : BitVec 32 := Scf.iv c0_i32_17 c1_i32_19 k1_t1
  let c64_i32 : BitVec 32 := 64#32
  let v63 : BitVec 32 := Scalar.muli arg6 c64_i32
  let v64 : BitVec 32 := v63
  let v544 : Index := Scalar.indexCast v64
  let c256 : Index := 256#32
  ![v544.toNat, 256]
def k1_off6 (k1_t1 : Fin k1_t1_loop.trips) : Fin 2 → Nat :=
  let c0_i32_17 : BitVec 32 := 0#32
  let c1_i32_19 : BitVec 32 := 1#32
  let arg6 : BitVec 32 := Scf.iv c0_i32_17 c1_i32_19 k1_t1
  let c64_i32 : BitVec 32 := 64#32
  let v63 : BitVec 32 := Scalar.muli arg6 c64_i32
  let v64 : BitVec 32 := v63
  let v657 : Index := Scalar.indexCast v64
  let c384 : Index := 384#32
  ![v657.toNat, 384]
def k1_off7 (k1_t1 : Fin k1_t1_loop.trips) : Fin 2 → Nat :=
  let c0_i32_17 : BitVec 32 := 0#32
  let c1_i32_19 : BitVec 32 := 1#32
  let arg6 : BitVec 32 := Scf.iv c0_i32_17 c1_i32_19 k1_t1
  let c64_i32 : BitVec 32 := 64#32
  let v63 : BitVec 32 := Scalar.muli arg6 c64_i32
  let v64 : BitVec 32 := v63
  let v770 : Index := Scalar.indexCast v64
  let c512 : Index := 512#32
  ![v770.toNat, 512]
def k1_off8 (k1_t1 : Fin k1_t1_loop.trips) : Fin 2 → Nat :=
  let c0_i32_17 : BitVec 32 := 0#32
  let c1_i32_19 : BitVec 32 := 1#32
  let arg6 : BitVec 32 := Scf.iv c0_i32_17 c1_i32_19 k1_t1
  let c64_i32 : BitVec 32 := 64#32
  let v63 : BitVec 32 := Scalar.muli arg6 c64_i32
  let v64 : BitVec 32 := v63
  let v883 : Index := Scalar.indexCast v64
  let c640 : Index := 640#32
  ![v883.toNat, 640]
def k1_off9 (k1_t1 : Fin k1_t1_loop.trips) : Fin 2 → Nat :=
  let c0_i32_17 : BitVec 32 := 0#32
  let c1_i32_19 : BitVec 32 := 1#32
  let arg6 : BitVec 32 := Scf.iv c0_i32_17 c1_i32_19 k1_t1
  let c64_i32 : BitVec 32 := 64#32
  let v63 : BitVec 32 := Scalar.muli arg6 c64_i32
  let v64 : BitVec 32 := v63
  let v996 : Index := Scalar.indexCast v64
  let c768 : Index := 768#32
  ![v996.toNat, 768]
def k1_off10 (k1_t1 : Fin k1_t1_loop.trips) : Fin 2 → Nat :=
  let c0_i32_17 : BitVec 32 := 0#32
  let c1_i32_19 : BitVec 32 := 1#32
  let arg6 : BitVec 32 := Scf.iv c0_i32_17 c1_i32_19 k1_t1
  let c64_i32 : BitVec 32 := 64#32
  let v63 : BitVec 32 := Scalar.muli arg6 c64_i32
  let v64 : BitVec 32 := v63
  let v1109 : Index := Scalar.indexCast v64
  let c896 : Index := 896#32
  ![v1109.toNat, 896]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x128 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S16x4096x2048 : Shape := ⟨3, ![16, 4096, 2048]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S16x4096x128x16 : Shape := ⟨4, ![16, 4096, 128, 16]⟩
abbrev S16x4096x128 : Shape := ⟨3, ![16, 4096, 128]⟩
abbrev S16x4096x128x1 : Shape := ⟨4, ![16, 4096, 128, 1]⟩
abbrev S16x4096x1024x2 : Shape := ⟨4, ![16, 4096, 1024, 2]⟩
abbrev S16x4096x1024x1 : Shape := ⟨4, ![16, 4096, 1024, 1]⟩
abbrev S16x4096x1024 : Shape := ⟨3, ![16, 4096, 1024]⟩

abbrev nBuf : Space → Nat
  | .hbm => 136
  | .vmem => 3
  | .smem => 0
  | _ => 0

abbrev hbmTy0_0 (i : Nat) : BufTy := match i % 128 with
  | 0 => ⟨S16x4096x2048, .bf16⟩
  | 1 => ⟨S16, .i32⟩
  | 2 => ⟨S16x1, .i32⟩
  | 3 => ⟨S1x16, .i32⟩
  | 4 => ⟨S16x16, .i32⟩
  | 5 => ⟨S16x16, .i32⟩
  | 6 => ⟨S16x16, .i32⟩
  | 7 => ⟨S16x16, .i32⟩
  | 8 => ⟨S_, .i32⟩
  | 9 => ⟨S16x16, .i32⟩
  | 10 => ⟨S16x16, .i32⟩
  | 11 => ⟨S_, .i32⟩
  | 12 => ⟨S16x16, .i32⟩
  | 13 => ⟨S16x16, .i1⟩
  | 14 => ⟨S_, .f32⟩
  | 15 => ⟨S_, .f32⟩
  | 16 => ⟨S16x16, .f32⟩
  | 17 => ⟨S16x16, .f32⟩
  | 18 => ⟨S16x16, .f32⟩
  | 19 => ⟨S16x4096x2048, .f32⟩
  | 20 => ⟨S16x4096x128x16, .f32⟩
  | 21 => ⟨S16x4096x128x16, .f32⟩
  | 22 => ⟨S16x4096x128x16, .f32⟩
  | 23 => ⟨S_, .f32⟩
  | 24 => ⟨S_, .f32⟩
  | 25 => ⟨S_, .f32⟩
  | 26 => ⟨S_, .i1⟩
  | 27 => ⟨S_, .f32⟩
  | 28 => ⟨S_, .f32⟩
  | 29 => ⟨S_, .f32⟩
  | 30 => ⟨S_, .f32⟩
  | 31 => ⟨S_, .f32⟩
  | 32 => ⟨S16x4096x128, .f32⟩
  | 33 => ⟨S_, .f32⟩
  | 34 => ⟨S_, .f32⟩
  | 35 => ⟨S16x4096x128, .f32⟩
  | 36 => ⟨S16x4096x128, .f32⟩
  | 37 => ⟨S_, .f32⟩
  | 38 => ⟨S16x4096x128, .f32⟩
  | 39 => ⟨S16x4096x128, .f32⟩
  | 40 => ⟨S16x4096x128, .fp8e4m3⟩
  | 41 => ⟨S16x4096x128, .f32⟩
  | 42 => ⟨S16x4096x128, .f32⟩
  | 43 => ⟨S16x4096x128, .f32⟩
  | 44 => ⟨S_, .f32⟩
  | 45 => ⟨S16x4096x128, .f32⟩
  | 46 => ⟨S16x4096x128, .i1⟩
  | 47 => ⟨S_, .f32⟩
  | 48 => ⟨S16x4096x128, .f32⟩
  | 49 => ⟨S16x4096x128, .f32⟩
  | 50 => ⟨S16x4096x128x1, .f32⟩
  | 51 => ⟨S16x4096x128x16, .f32⟩
  | 52 => ⟨S16x4096x128x16, .f32⟩
  | 53 => ⟨S_, .f32⟩
  | 54 => ⟨S_, .f32⟩
  | 55 => ⟨S_, .f32⟩
  | 56 => ⟨S16x4096x128x16, .f32⟩
  | 57 => ⟨S16x4096x128x16, .f32⟩
  | 58 => ⟨S_, .f32⟩
  | 59 => ⟨S16x4096x128x16, .f32⟩
  | 60 => ⟨S16x4096x128x16, .f32⟩
  | 61 => ⟨S16x4096x128x16, .f32⟩
  | 62 => ⟨S_, .f32⟩
  | 63 => ⟨S16x4096x128x16, .f32⟩
  | 64 => ⟨S16x4096x128x16, .i1⟩
  | 65 => ⟨S_, .f32⟩
  | 66 => ⟨S16x4096x128x16, .f32⟩
  | 67 => ⟨S16x4096x128x16, .i1⟩
  | 68 => ⟨S_, .f32⟩
  | 69 => ⟨S_, .f32⟩
  | 70 => ⟨S16x4096x128x16, .f32⟩
  | 71 => ⟨S16x4096x128x16, .f32⟩
  | 72 => ⟨S16x4096x128x16, .f32⟩
  | 73 => ⟨S_, .f32⟩
  | 74 => ⟨S16x4096x128x16, .f32⟩
  | 75 => ⟨S16x4096x128x16, .f32⟩
  | 76 => ⟨S16x4096x128x16, .f32⟩
  | 77 => ⟨S16x4096x128x16, .f32⟩
  | 78 => ⟨S16x4096x128x16, .f32⟩
  | 79 => ⟨S16x4096x128x16, .f32⟩
  | 80 => ⟨S_, .f32⟩
  | 81 => ⟨S16x4096x128x16, .f32⟩
  | 82 => ⟨S16x4096x128x16, .i1⟩
  | 83 => ⟨S16x4096x128x16, .i32⟩
  | 84 => ⟨S_, .i32⟩
  | 85 => ⟨S16x4096x128x16, .i32⟩
  | 86 => ⟨S16x4096x128x16, .i32⟩
  | 87 => ⟨S_, .f32⟩
  | 88 => ⟨S16x4096x128x16, .f32⟩
  | 89 => ⟨S16x4096x128x16, .i1⟩
  | 90 => ⟨S16x4096x128x16, .i32⟩
  | 91 => ⟨S16x4096x128x16, .i32⟩
  | 92 => ⟨S_, .f32⟩
  | 93 => ⟨S16x4096x128x16, .f32⟩
  | 94 => ⟨S16x4096x128x16, .i1⟩
  | 95 => ⟨S16x4096x128x16, .i32⟩
  | 96 => ⟨S16x4096x128x16, .i32⟩
  | 97 => ⟨S_, .f32⟩
  | 98 => ⟨S16x4096x128x16, .f32⟩
  | 99 => ⟨S16x4096x128x16, .i1⟩
  | 100 => ⟨S16x4096x128x16, .i32⟩
  | 101 => ⟨S16x4096x128x16, .i32⟩
  | 102 => ⟨S_, .f32⟩
  | 103 => ⟨S16x4096x128x16, .f32⟩
  | 104 => ⟨S16x4096x128x16, .i1⟩
  | 105 => ⟨S16x4096x128x16, .i32⟩
  | 106 => ⟨S16x4096x128x16, .i32⟩
  | 107 => ⟨S_, .f32⟩
  | 108 => ⟨S16x4096x128x16, .f32⟩
  | 109 => ⟨S16x4096x128x16, .i1⟩
  | 110 => ⟨S16x4096x128x16, .i32⟩
  | 111 => ⟨S16x4096x128x16, .i32⟩
  | 112 => ⟨S_, .f32⟩
  | 113 => ⟨S16x4096x128x16, .f32⟩
  | 114 => ⟨S16x4096x128x16, .i1⟩
  | 115 => ⟨S16x4096x128x16, .i32⟩
  | 116 => ⟨S16x4096x128x16, .i32⟩
  | 117 => ⟨S_, .f32⟩
  | 118 => ⟨S16x4096x128x16, .f32⟩
  | 119 => ⟨S16x4096x128x16, .i1⟩
  | 120 => ⟨S_, .i32⟩
  | 121 => ⟨S_, .i32⟩
  | 122 => ⟨S16x4096x128x16, .i32⟩
  | 123 => ⟨S16x4096x128x16, .i32⟩
  | 124 => ⟨S16x4096x128x16, .i32⟩
  | 125 => ⟨S16x4096x128x16, .i32⟩
  | 126 => ⟨S16x4096x1024x2, .i32⟩
  | 127 => ⟨S16x4096x1024x1, .i32⟩
  | _ => ⟨S16x4096x2048, .bf16⟩

abbrev hbmTy0_1 (i : Nat) : BufTy := match i % 128 with
  | 0 => ⟨S16x4096x1024, .i32⟩
  | 1 => ⟨S16x4096x1024x1, .i32⟩
  | 2 => ⟨S16x4096x1024, .i32⟩
  | 3 => ⟨S_, .i32⟩
  | 4 => ⟨S16x4096x1024, .i32⟩
  | 5 => ⟨S16x4096x1024, .i32⟩
  | 6 => ⟨S16x4096x1024, .i32⟩
  | 7 => ⟨S16x4096x1024, .i8⟩
  | _ => ⟨S16x4096x2048, .bf16⟩

abbrev hbmTy (i : Nat) : BufTy := match i / 128 with
  | 0 => hbmTy0_0 i
  | 1 => hbmTy0_1 i
  | _ => ⟨S16x4096x2048, .bf16⟩

abbrev bufTy : (tb : Table) → Fin (tcTables nBuf tb) → BufTy
  | .hbm, ⟨i, _⟩ => hbmTy i
  | .local _ .vmem, ⟨0, _⟩ => ⟨S16x4096x128, .f32⟩
  | .local _ .vmem, ⟨1, _⟩ => ⟨S16x4096x128, .fp8e4m3⟩
  | .local _ .vmem, ⟨2, _⟩ => ⟨S16x4096x128, .f32⟩
  | _, _ => ⟨S16x4096x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_call2_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_11 : Ref sig .tc := ⟨.hbm, 53, rfl⟩
abbrev main_cst_12 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_v35 : Ref sig .tc := ⟨.hbm, 60, rfl⟩
abbrev main_v36 : Ref sig .tc := ⟨.hbm, 61, rfl⟩
abbrev main_cst_13 : Ref sig .tc := ⟨.hbm, 62, rfl⟩
abbrev main_v37 : Ref sig .tc := ⟨.hbm, 63, rfl⟩
abbrev main_v38 : Ref sig .tc := ⟨.hbm, 64, rfl⟩
abbrev main_cst_14 : Ref sig .tc := ⟨.hbm, 65, rfl⟩
abbrev main_v39 : Ref sig .tc := ⟨.hbm, 66, rfl⟩
abbrev main_v40 : Ref sig .tc := ⟨.hbm, 67, rfl⟩
abbrev main_cst_15 : Ref sig .tc := ⟨.hbm, 68, rfl⟩
abbrev main_cst_16 : Ref sig .tc := ⟨.hbm, 69, rfl⟩
abbrev main_call4_v0 : Ref sig .tc := ⟨.hbm, 70, rfl⟩
abbrev main_call4_v1 : Ref sig .tc := ⟨.hbm, 71, rfl⟩
abbrev main_v41 : Ref sig .tc := ⟨.hbm, 72, rfl⟩
abbrev main_cst_17 : Ref sig .tc := ⟨.hbm, 73, rfl⟩
abbrev main_call5_v0 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_18 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_19 : Ref sig .tc := ⟨.hbm, 84, rfl⟩
abbrev main_v50 : Ref sig .tc := ⟨.hbm, 85, rfl⟩
abbrev main_v51 : Ref sig .tc := ⟨.hbm, 86, rfl⟩
abbrev main_cst_20 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_21 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_22 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_23 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_24 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_25 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_26 : Ref sig .tc := ⟨.hbm, 117, rfl⟩
abbrev main_v76 : Ref sig .tc := ⟨.hbm, 118, rfl⟩
abbrev main_v77 : Ref sig .tc := ⟨.hbm, 119, rfl⟩
abbrev main_c_27 : Ref sig .tc := ⟨.hbm, 120, rfl⟩
abbrev main_c_28 : Ref sig .tc := ⟨.hbm, 121, rfl⟩
abbrev main_call7_v0 : Ref sig .tc := ⟨.hbm, 122, rfl⟩
abbrev main_call7_v1 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_c_29 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x4096x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Lanes.lean ====
/-
  One trip of the quantising kernel's loop as plain lane operations.

  The printed body repeats one text eight times, once per group of 256 channels, cut at
  different places. Here that text stands once: the four-bit code of a lane, the word of eight
  codes, the clearing of a zero code's sign, the lane permutation, and the trip's list of
  written pieces in terms of them.
-/
module

public import proofs.«01_k».proof.Proof.Gen.KernelIdeal.Frame
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem

namespace Cert.Proof.Lanes
open Cert.KernelIdeal Cert.KernelIdeal.Gen

variable {F : FTy → Type} [FloatOps F]

/-- The product clipped to the range of the four-bit format. -/
def clipped (y r : FVec F S64x128 .f32) : FVec F S64x128 .f32 :=
  minimumf (broadcast S64x128 (Scalar.ofBits .f32 0x40C00000#32))
    (maximumf (broadcast S64x128 (Scalar.ofBits .f32 0xC0C00000#32)) (mulf y r))

/-- The four-bit code of every lane, as a byte: the sign in bit 3, the number of rounding
    boundaries below the magnitude in bits 0 to 2. -/
def codes (t : FVec F S64x128 .f32) : IVec S64x128 8 :=
  trunci 8
    (addi (addi (addi (addi (addi (addi (addi
      (select (cmpf .olt t (broadcast S64x128 (Scalar.ofBits .f32 0x00000000#32)))
        (broadcast S64x128 8#32) (broadcast S64x128 0#32))
      (extui 32 (cmpf .ogt (absf t) (broadcast S64x128 (Scalar.ofBits .f32 0x3E800000#32))) natLt_1_32))
      (extui 32 (cmpf .oge (absf t) (broadcast S64x128 (Scalar.ofBits .f32 0x3F400000#32))) natLt_1_32))
      (extui 32 (cmpf .ogt (absf t) (broadcast S64x128 (Scalar.ofBits .f32 0x3FA00000#32))) natLt_1_32))
      (extui 32 (cmpf .oge (absf t) (broadcast S64x128 (Scalar.ofBits .f32 0x3FE00000#32))) natLt_1_32))
      (extui 32 (cmpf .ogt (absf t) (broadcast S64x128 (Scalar.ofBits .f32 0x40200000#32))) natLt_1_32))
      (extui 32 (cmpf .oge (absf t) (broadcast S64x128 (Scalar.ofBits .f32 0x40600000#32))) natLt_1_32))
      (extui 32 (cmpf .ogt (absf t) (broadcast S64x128 (Scalar.ofBits .f32 0x40A00000#32))) natLt_1_32))
    natLt_8_32

/-- The codes of four consecutive rows in one word. -/
def packed (t : FVec F S64x128 .f32) : IVec S16x128 32 :=
  bitcast S16x128 32 (codes t) bitcasts_S64x128_w8_S16x128_w32

/-- Two words of codes merged: the first in the low nibbles, the second in the high ones. -/
def merged (a b : IVec S16x128 32) : IVec S16x128 32 :=
  ori a (shli b (broadcast S16x128 4#32))

/-- The sign bit of every nibble whose magnitude is zero, cleared. -/
def cleared (z : IVec S16x128 32) : IVec S16x128 32 :=
  andi z (ori (addi (andi z (broadcast S16x128 2004318071#32)) (broadcast S16x128 2004318071#32))
    (broadcast S16x128 2004318071#32))

/-- An index array as the gather reads it: a negative index counted from the end. -/
def wrap64 (i : IVec S64x128 32) : IVec S64x128 32 :=
  shapeCast S64x128 (shapeCast S64x128x1
    (select (cmpi .slt i (broadcast S64x128 0#32)) (addi i (broadcast S64x128 128#32)) i)
    shapeCasts_S64x128_S64x128x1) shapeCasts_S64x128x1_S64x128

/-- The same for the sixteen-row index array. -/
def wrap16 (i : IVec S16x128 32) : IVec S16x128 32 :=
  shapeCast S16x128 (shapeCast S16x128x1
    (select (cmpi .slt i (broadcast S16x128 0#32)) (addi i (broadcast S16x128 128#32)) i)
    shapeCasts_S16x128_S16x128x1) shapeCasts_S16x128x1_S16x128

/-- What one group's store writes: both halves scaled by the gathered factors, coded, merged,
    cleared, permuted along the lanes and read as bytes. -/
def piece (k : BitVec 32) (seg : IVec S64x128 32) (oidx : IVec S16x128 32)
    (inv a b : FVec F S64x128 .f32) : IVec S64x128 8 :=
  bitcast S64x128 8 (dynamicGather 1
    (cleared (merged
      (packed (clipped a (dynamicGather 1 inv (wrap64 (addi seg (broadcast S64x128 k))))))
      (packed (clipped b (dynamicGather 1 inv (wrap64 (addi seg (broadcast S64x128 k))))))))
    (wrap16 oidx)) bitcasts_S16x128_w32_S64x128_w8

/-- One merge stage of the block maximum: lanes whose bit is clear keep `a`, the others `b`;
    the partner comes from the rotated complement. -/
def stage (bit n : BitVec 32) (a b : FVec F S64x128 .f32) : FVec F S64x128 .f32 :=
  maximumf (select (cmpi .eq (andi (shrsi k1_pay29 (broadcast S64x128 bit)) (broadcast S64x128 1#32)) (broadcast S64x128 0#32)) a b)
    (dynamicRotate 1 n none
      (select (cmpi .eq (andi (shrsi k1_pay29 (broadcast S64x128 bit)) (broadcast S64x128 1#32)) (broadcast S64x128 0#32)) b a)
      rotates_S64x128_d1)

/-- One group's lanes: the greater magnitude of its two halves. -/
def mag (a b : FVec F S64x128 .f32) : FVec F S64x128 .f32 := maximumf (absf a) (absf b)

/-- The maximum of every block of sixteen channels, at the lane of the block's number. -/
def blockMax (X : Vec F S64x2048 .bf16) (W : Vec F S256x256 .bf16) : FVec F S64x128 .f32 :=
  stage 2#32 64#32
    (stage 1#32 32#32
      (stage 0#32 16#32 (mag (k1_pay4 X W) (k1_pay5 X W)) (mag (k1_pay6 X W) (k1_pay7 X W)))
      (stage 0#32 16#32 (mag (k1_pay8 X W) (k1_pay9 X W)) (mag (k1_pay10 X W) (k1_pay11 X W))))
    (stage 1#32 32#32
      (stage 0#32 16#32 (mag (k1_pay12 X W) (k1_pay13 X W)) (mag (k1_pay14 X W) (k1_pay15 X W)))
      (stage 0#32 16#32 (mag (k1_pay16 X W) (k1_pay17 X W)) (mag (k1_pay18 X W) (k1_pay19 X W))))

/-- The blocks' scales. -/
def scale (s : Elt F .f32) (m : FVec F S64x128 .f32) : FVec F S64x128 .fp8e4m3 :=
  truncf .fp8e4m3 (minimumf (divf m (broadcast S64x128 (Scalar.mulf (Scalar.ofBits .f32 0x40C00000#32) s)))
    (broadcast S64x128 (Scalar.ofBits .f32 0x43E00000#32))) bitsLt_fp8e4m3_f32

/-- The factors by which the lanes are scaled. -/
def factor (s : Elt F .f32) (q : FVec F S64x128 .fp8e4m3) : FVec F S64x128 .f32 :=
  divf (broadcast S64x128 (Scalar.ofBits .f32 0x3F800000#32))
    (select (cmpf .oeq (mulf (extf .f32 q bitsLt_fp8e4m3_f32) (broadcast S64x128 s))
        (broadcast S64x128 (Scalar.ofBits .f32 0x00000000#32)))
      (broadcast S64x128 (Scalar.ofBits .f32 0x3F800000#32))
      (mulf (extf .f32 q bitsLt_fp8e4m3_f32) (broadcast S64x128 s)))

/-- The trip's rows of the input, as the body loads them. -/
abbrev rows (arg2 : Memref sig .tc .vmem S512x2048 .bf16) (X : BufTy.Contents (Elt F) arg2.view.ty) (k : Fin k1_t1_loop.trips) : Vec F S64x2048 .bf16 :=
  View.readAt (Elt F) arg2.view (Rect.unit (s := S512x2048) (k1_off1 k) S64x2048.size (k1_off1_inb k)).toLoadRect X
/-- The weights, as the body loads them. -/
abbrev wts (arg3 : Memref sig .tc .vmem S256x256 .bf16) (X : BufTy.Contents (Elt F) arg3.view.ty) : Vec F S256x256 .bf16 :=
  View.readAt (Elt F) arg3.view (Rect.unit (s := S256x256) ![0, 0] S256x256.size inb_S256x256_S256x256_0_0).toLoadRect X

section
variable (𝒱 : Variants) (c : Dev nD) (bd : Option 𝒱.V) (i : grid1.Coords) (arg1 : Memref sig .tc .smem S1x1 .f32) (harg1 : arg1.IsWhole) (arg2 : Memref sig .tc .vmem S512x2048 .bf16) (harg2 : arg2.IsWhole) (arg3 : Memref sig .tc .vmem S256x256 .bf16) (harg3 : arg3.IsWhole) (arg4 : Memref sig .tc .vmem S512x1024 .i8) (harg4 : arg4.IsWhole) (arg5 : Memref sig .tc .vmem S512x128 .fp8e4m3) (harg5 : arg5.IsWhole) (v0 : Elt F .f32) (v17 : IVec S64x128 32) (v18 : IVec S16x128 32) (v36 : IVec S16x128 32) (c8_i32_10 : BitVec 32) (v38 : IVec S16x128 32) (v41 : IVec S16x128 32) (X_arg2 : BufTy.Contents (Elt F) arg2.view.ty) (X_arg3 : BufTy.Contents (Elt F) arg3.view.ty) (k : Fin k1_t1_loop.trips)

/-- What one trip writes into the scales' block: one piece, its rows' scales. -/
theorem trip_scales :
    (tripL_k1_t1 (F := F) 𝒱 c bd i arg1 harg1 arg2 harg2 arg3 harg3 arg4 harg4 arg5 harg5 v0 v17 v18 v36 c8_i32_10 v38 v41 X_arg2 X_arg3 k).2
      = [⟨Rect.unit (k1_off2 k) ![64, 128] (k1_off2_inb k), scale v0 (blockMax (rows arg2 X_arg2 k) (wts arg3 X_arg3))⟩] := by
  unfold tripL_k1_t1 trip_k1_t1
  dsimp only
  rfl

/-- The scaling factors of the trip's rows. -/
abbrev fac (arg2 : Memref sig .tc .vmem S512x2048 .bf16) (arg3 : Memref sig .tc .vmem S256x256 .bf16) (v0 : Elt F .f32)  (X_arg2 : BufTy.Contents (Elt F) arg2.view.ty) (X_arg3 : BufTy.Contents (Elt F) arg3.view.ty) (k : Fin k1_t1_loop.trips) : FVec F S64x128 .f32 :=
  factor v0 (scale v0 (blockMax (rows arg2 X_arg2 k) (wts arg3 X_arg3)))

/-- What one trip writes into the packed block: eight pieces, one per group of 256 channels. -/
theorem trip_codes :
    (tripL_k1_t1 (F := F) 𝒱 c bd i arg1 harg1 arg2 harg2 arg3 harg3 arg4 harg4 arg5 harg5 v0 v17 v18 v36 c8_i32_10 v38 v41 X_arg2 X_arg3 k).1
      = [⟨Rect.unit (k1_off10 k) ![64, 128] (k1_off10_inb k), piece 112#32 v17 (k1_pay1 v18 v36 c8_i32_10 v38 v41) (fac arg2 arg3 v0 X_arg2 X_arg3 k) (k1_pay18 (rows arg2 X_arg2 k) (wts arg3 X_arg3)) (k1_pay19 (rows arg2 X_arg2 k) (wts arg3 X_arg3))⟩,
        ⟨Rect.unit (k1_off9 k) ![64, 128] (k1_off9_inb k), piece 96#32 v17 (k1_pay1 v18 v36 c8_i32_10 v38 v41) (fac arg2 arg3 v0 X_arg2 X_arg3 k) (k1_pay16 (rows arg2 X_arg2 k) (wts arg3 X_arg3)) (k1_pay17 (rows arg2 X_arg2 k) (wts arg3 X_arg3))⟩,
        ⟨Rect.unit (k1_off8 k) ![64, 128] (k1_off8_inb k), piece 80#32 v17 (k1_pay1 v18 v36 c8_i32_10 v38 v41) (fac arg2 arg3 v0 X_arg2 X_arg3 k) (k1_pay14 (rows arg2 X_arg2 k) (wts arg3 X_arg3)) (k1_pay15 (rows arg2 X_arg2 k) (wts arg3 X_arg3))⟩,
        ⟨Rect.unit (k1_off7 k) ![64, 128] (k1_off7_inb k), piece 64#32 v17 (k1_pay1 v18 v36 c8_i32_10 v38 v41) (fac arg2 arg3 v0 X_arg2 X_arg3 k) (k1_pay12 (rows arg2 X_arg2 k) (wts arg3 X_arg3)) (k1_pay13 (rows arg2 X_arg2 k) (wts arg3 X_arg3))⟩,
        ⟨Rect.unit (k1_off6 k) ![64, 128] (k1_off6_inb k), piece 48#32 v17 (k1_pay1 v18 v36 c8_i32_10 v38 v41) (fac arg2 arg3 v0 X_arg2 X_arg3 k) (k1_pay10 (rows arg2 X_arg2 k) (wts arg3 X_arg3)) (k1_pay11 (rows arg2 X_arg2 k) (wts arg3 X_arg3))⟩,
        ⟨Rect.unit (k1_off5 k) ![64, 128] (k1_off5_inb k), piece 32#32 v17 (k1_pay1 v18 v36 c8_i32_10 v38 v41) (fac arg2 arg3 v0 X_arg2 X_arg3 k) (k1_pay8 (rows arg2 X_arg2 k) (wts arg3 X_arg3)) (k1_pay9 (rows arg2 X_arg2 k) (wts arg3 X_arg3))⟩,
        ⟨Rect.unit (k1_off4 k) ![64, 128] (k1_off4_inb k), piece 16#32 v17 (k1_pay1 v18 v36 c8_i32_10 v38 v41) (fac arg2 arg3 v0 X_arg2 X_arg3 k) (k1_pay6 (rows arg2 X_arg2 k) (wts arg3 X_arg3)) (k1_pay7 (rows arg2 X_arg2 k) (wts arg3 X_arg3))⟩,
        ⟨Rect.unit (k1_off3 k) ![64, 128] (k1_off3_inb k), piece 0#32 v17 (k1_pay1 v18 v36 c8_i32_10 v38 v41) (fac arg2 arg3 v0 X_arg2 X_arg3 k) (k1_pay4 (rows arg2 X_arg2 k) (wts arg3 X_arg3)) (k1_pay5 (rows arg2 X_arg2 k) (wts arg3 X_arg3))⟩] := by
  unfold tripL_k1_t1 trip_k1_t1
  dsimp only
  rfl
end
end Cert.Proof.Lanes
end
-- ==== Proof.Code.lean ====
/-
  The four-bit code of one scaled value, on the reals.

  The kernel counts the rounding boundaries below the magnitude and later clears the sign of a
  zero code. The reference rounds to the nearest value of the format (half to even), counts the
  format's values up to the result, and reads the result's sign. `code_eq` says that the two
  numbers agree on [-6, 6].
-/
module

public import Idealize.ShloMosaic.Lib.Pointwise
public import Idealize.ShloMosaic.Lib.IdealHost

@[expose] public section
noncomputable section
open Idealize.ShloMosaic

namespace Cert.Proof.Code

/-- The number of rounding boundaries at or below the magnitude `a` (a boundary itself counts
    where rounding half to even goes up). -/
def bounds (a : ℝ) : ℕ :=
  (if 1 / 4 < a then 1 else 0) + (if 3 / 4 ≤ a then 1 else 0) + (if 5 / 4 < a then 1 else 0)
    + (if 7 / 4 ≤ a then 1 else 0) + (if 5 / 2 < a then 1 else 0) + (if 7 / 2 ≤ a then 1 else 0)
    + (if 5 < a then 1 else 0)

/-- Bit 3 of a code: the sign. -/
def sgn (t : ℝ) : ℕ := if t < 0 then 8 else 0

/-- The spacing of the format's values at magnitude `a`. -/
def step (a : ℝ) : ℝ := if a < 2 then 1 / 2 else if a < 4 then 1 else 2

/-- The nearest value of the format, half to even. -/
def rnd (t : ℝ) : ℝ := (Ideal.roundHalfEven (t / step |t|) : ℝ) * step |t|

/-- The number of the format's positive values up to `a`. -/
def values (a : ℝ) : ℕ :=
  (if 1 / 2 ≤ a then 1 else 0) + (if 1 ≤ a then 1 else 0) + (if 3 / 2 ≤ a then 1 else 0)
    + (if 2 ≤ a then 1 else 0) + (if 3 ≤ a then 1 else 0) + (if 4 ≤ a then 1 else 0)
    + (if 6 ≤ a then 1 else 0)

/-- The code the kernel builds before it clears a zero's sign. -/
def raw (t : ℝ) : ℕ := sgn t + bounds |t|

/-- A code with the sign of a zero magnitude cleared. -/
def clr (n : ℕ) : ℕ := if n % 8 = 0 then 0 else n

/-- The code of the reference: sign and magnitude of the rounded value. -/
def code (t : ℝ) : ℕ := sgn (rnd t) + values |rnd t|

/-- Rounding half to even, recognised: `n` is the result when `r` is closer than one half to it,
    or exactly one half away and `n` is even. -/
theorem roundHalfEven_eq {r : ℝ} {n : ℤ} (h : |r - n| < 1 / 2 ∨ (|r - n| = 1 / 2 ∧ Even n)) :
    Ideal.roundHalfEven r = n := by
  have h1 := Int.floor_le r
  have h2 := Int.lt_floor_add_one r
  have hle : |r - n| ≤ 1 / 2 := by rcases h with h | h; exacts [h.le, h.1.le]
  rw [abs_le] at hle
  have hfl : ⌊r⌋ = n ∨ ⌊r⌋ = n - 1 := by
    have a1 : ((⌊r⌋ : ℤ) : ℝ) < n + 1 := by linarith
    have a2 : (n : ℝ) - 2 < ⌊r⌋ := by linarith
    have b1 : ⌊r⌋ < n + 1 := by exact_mod_cast a1
    have b2 : n - 2 < ⌊r⌋ := by exact_mod_cast a2
    omega
  unfold Ideal.roundHalfEven
  dsimp only
  rcases hfl with e | e <;> rw [e] at h1 h2 ⊢
  · rcases h with h | ⟨h, he⟩
    · rw [abs_lt] at h; rw [if_pos (by linarith)]
    · have : r - n = 1 / 2 := by
        rcases (abs_eq (by norm_num)).1 h with h' | h'
        · exact h'
        · exfalso; push_cast at *; linarith
      rw [if_neg (by linarith), if_neg (by linarith), if_pos he]
  · push_cast at *
    rcases h with h | ⟨h, he⟩
    · rw [abs_lt] at h; rw [if_neg (by linarith), if_pos (by linarith)]; ring
    · have : r - n = -(1 / 2) := by
        rcases (abs_eq (by norm_num)).1 h with h' | h'
        · exfalso; linarith
        · exact h'
      have ho : ¬ Even (n - 1) := by
        rw [Int.even_sub_one]; exact not_not.2 he
      rw [if_neg (by linarith), if_neg (by linarith), if_neg ho]; ring

/-- Rounding half to even is odd. -/
theorem roundHalfEven_neg (r : ℝ) (n : ℤ) (h : |r - n| < 1 / 2 ∨ (|r - n| = 1 / 2 ∧ Even n)) :
    Ideal.roundHalfEven (-r) = -n := by
  apply roundHalfEven_eq
  have : |-r - ((-n : ℤ) : ℝ)| = |r - n| := by
    rw [← abs_neg]; congr 1; push_cast; ring
  rw [this]
  exact h.imp id fun ⟨a, b⟩ => ⟨a, b.neg⟩

/-- What is shown of one range of magnitudes: the code is `m`, and the rounded value has
    magnitude `v`, whose code is `m` as well. -/
def Good (t : ℝ) : Prop :=
  (bounds |t| = 0 ∧ rnd t = 0) ∨ (bounds |t| ≠ 0 ∧ bounds |t| < 8 ∧ (rnd t < 0 ↔ t < 0) ∧ values |rnd t| = bounds |t|)

/-- One range: with spacing `s`, quotient near `n`. -/
theorem good_of (t s : ℝ) (n : ℤ) (m : ℕ) (hs : step |t| = s) (hs0 : 0 < s)
    (h : |(|t| / s - n)| < 1 / 2 ∨ (|(|t| / s - n)| = 1 / 2 ∧ Even n))
    (hb : bounds |t| = m) (hn : (n = 0 ∧ m = 0) ∨ (0 < n ∧ m ≠ 0 ∧ m < 8 ∧ values (n * s) = m)) : Good t := by
  have key : rnd t = if t < 0 then -(n * s) else n * s := by
    unfold rnd
    rw [hs]
    split
    · next hneg =>
      rw [abs_of_neg hneg] at h
      have := roundHalfEven_neg (-t / s) n h
      rw [show -(-t / s) = t / s by ring] at this
      rw [this]; push_cast; ring
    · next hpos =>
      rw [abs_of_nonneg (not_lt.1 hpos)] at h
      rw [roundHalfEven_eq h]
  rcases hn with ⟨rfl, rfl⟩ | ⟨hn0, hm0, hm8, hv⟩
  · left; refine ⟨hb, ?_⟩; rw [key]; simp
  · right
    have hpos : 0 < (n : ℝ) * s := mul_pos (by exact_mod_cast hn0) hs0
    refine ⟨by rw [hb]; exact hm0, by rw [hb]; exact hm8, ?_, ?_⟩
    · rw [key]; split
      · next h1 => exact ⟨fun _ => h1, fun _ => by linarith⟩
      · next h1 => exact ⟨fun h2 => by linarith, fun h2 => absurd h2 h1⟩
    · rw [hb, ← hv]; congr 1; rw [key]; split
      · rw [abs_neg, abs_of_pos hpos]
      · rw [abs_of_pos hpos]

/-- Every value in [-6, 6] rounds as its code says. -/
theorem good (t : ℝ) (ht : |t| ≤ 6) : Good t := by
  have h0 := abs_nonneg t
  generalize ha : |t| = a at *
  by_cases c1 : a ≤ 1 / 4
  · refine good_of t (1 / 2) 0 0 ?_ (by norm_num) ?_ ?_ (.inl ⟨rfl, rfl⟩) <;> rw [ha]
    · unfold step; rw [if_pos (by linarith)]
    · by_cases e : a = 1 / 4
      · right; refine ⟨?_, by decide⟩; rw [e]; norm_num
      · left; have : a < 1 / 4 := lt_of_le_of_ne c1 e
        rw [abs_lt]; push_cast; constructor <;> linarith
    · unfold bounds
      rw [if_neg (by linarith), if_neg (by linarith), if_neg (by linarith), if_neg (by linarith), if_neg (by linarith), if_neg (by linarith), if_neg (by linarith)]
  by_cases c2 : a < 3 / 4
  · refine good_of t (1 / 2) 1 1 ?_ (by norm_num) ?_ ?_ (.inr ⟨by decide, by decide, by decide, by unfold values; norm_num⟩) <;> rw [ha]
    · unfold step; rw [if_pos (by linarith)]
    · left; rw [abs_lt]; push_cast; constructor <;> linarith
    · unfold bounds
      rw [if_pos (by linarith), if_neg (by linarith), if_neg (by linarith), if_neg (by linarith), if_neg (by linarith), if_neg (by linarith), if_neg (by linarith)]
  by_cases c3 : a ≤ 5 / 4
  · refine good_of t (1 / 2) 2 2 ?_ (by norm_num) ?_ ?_ (.inr ⟨by decide, by decide, by decide, by unfold values; norm_num⟩) <;> rw [ha]
    · unfold step; rw [if_pos (by linarith)]
    · by_cases e : a = 5 / 4
      · right; refine ⟨?_, by decide⟩; rw [e]; norm_num
      by_cases e' : a = 3 / 4
      · right; refine ⟨?_, by decide⟩; rw [e', abs_of_neg] <;> norm_num
      · left; have : a < 5 / 4 := lt_of_le_of_ne c3 e
        have : 3 / 4 < a := lt_of_le_of_ne (not_lt.1 c2) (Ne.symm e')
        rw [abs_lt]; push_cast; constructor <;> linarith
    · unfold bounds
      rw [if_pos (by linarith), if_pos (by linarith), if_neg (by linarith), if_neg (by linarith), if_neg (by linarith), if_neg (by linarith), if_neg (by linarith)]
  by_cases c4 : a < 7 / 4
  · refine good_of t (1 / 2) 3 3 ?_ (by norm_num) ?_ ?_ (.inr ⟨by decide, by decide, by decide, by unfold values; norm_num⟩) <;> rw [ha]
    · unfold step; rw [if_pos (by linarith)]
    · left; rw [abs_lt]; push_cast; constructor <;> linarith
    · unfold bounds
      rw [if_pos (by linarith), if_pos (by linarith), if_pos (by linarith), if_neg (by linarith), if_neg (by linarith), if_neg (by linarith), if_neg (by linarith)]
  by_cases c5 : a < 2
  · refine good_of t (1 / 2) 4 4 ?_ (by norm_num) ?_ ?_ (.inr ⟨by decide, by decide, by decide, by unfold values; norm_num⟩) <;> rw [ha]
    · unfold step; rw [if_pos (by linarith)]
    · by_cases e' : a = 7 / 4
      · right; refine ⟨?_, by decide⟩; rw [e', abs_of_neg] <;> norm_num
      · left; have : 7 / 4 < a := lt_of_le_of_ne (not_lt.1 c4) (Ne.symm e')
        rw [abs_lt]; push_cast; constructor <;> linarith
    · unfold bounds
      rw [if_pos (by linarith), if_pos (by linarith), if_pos (by linarith), if_pos (by linarith), if_neg (by linarith), if_neg (by linarith), if_neg (by linarith)]
  by_cases c6 : a ≤ 5 / 2
  · refine good_of t 1 2 4 ?_ (by norm_num) ?_ ?_ (.inr ⟨by decide, by decide, by decide, by unfold values; norm_num⟩) <;> rw [ha]
    · unfold step; rw [if_neg (by linarith), if_pos (by linarith)]
    · by_cases e : a = 5 / 2
      · right; refine ⟨?_, by decide⟩; rw [e]; norm_num
      · left; have : a < 5 / 2 := lt_of_le_of_ne c6 e
        rw [abs_lt]; push_cast; constructor <;> linarith
    · unfold bounds
      rw [if_pos (by linarith), if_pos (by linarith), if_pos (by linarith), if_pos (by linarith), if_neg (by linarith), if_neg (by linarith), if_neg (by linarith)]
  by_cases c7 : a < 7 / 2
  · refine good_of t 1 3 5 ?_ (by norm_num) ?_ ?_ (.inr ⟨by decide, by decide, by decide, by unfold values; norm_num⟩) <;> rw [ha]
    · unfold step; rw [if_neg (by linarith), if_pos (by linarith)]
    · left; rw [abs_lt]; push_cast; constructor <;> linarith
    · unfold bounds
      rw [if_pos (by linarith), if_pos (by linarith), if_pos (by linarith), if_pos (by linarith), if_pos (by linarith), if_neg (by linarith), if_neg (by linarith)]
  by_cases c8 : a < 4
  · refine good_of t 1 4 6 ?_ (by norm_num) ?_ ?_ (.inr ⟨by decide, by decide, by decide, by unfold values; norm_num⟩) <;> rw [ha]
    · unfold step; rw [if_neg (by linarith), if_pos (by linarith)]
    · by_cases e' : a = 7 / 2
      · right; refine ⟨?_, by decide⟩; rw [e', abs_of_neg] <;> norm_num
      · left; have : 7 / 2 < a := lt_of_le_of_ne (not_lt.1 c7) (Ne.symm e')
        rw [abs_lt]; push_cast; constructor <;> linarith
    · unfold bounds
      rw [if_pos (by linarith), if_pos (by linarith), if_pos (by linarith), if_pos (by linarith), if_pos (by linarith), if_pos (by linarith), if_neg (by linarith)]
  by_cases c9 : a ≤ 5
  · refine good_of t 2 2 6 ?_ (by norm_num) ?_ ?_ (.inr ⟨by decide, by decide, by decide, by unfold values; norm_num⟩) <;> rw [ha]
    · unfold step; rw [if_neg (by linarith), if_neg (by linarith)]
    · by_cases e : a = 5
      · right; refine ⟨?_, by decide⟩; rw [e]; norm_num
      · left; have : a < 5 := lt_of_le_of_ne c9 e
        rw [abs_lt]; push_cast; constructor <;> linarith
    · unfold bounds
      rw [if_pos (by linarith), if_pos (by linarith), if_pos (by linarith), if_pos (by linarith), if_pos (by linarith), if_pos (by linarith), if_neg (by linarith)]
  · refine good_of t 2 3 7 ?_ (by norm_num) ?_ ?_ (.inr ⟨by decide, by decide, by decide, by unfold values; norm_num⟩) <;> rw [ha]
    · unfold step; rw [if_neg (by linarith), if_neg (by linarith)]
    · left; rw [abs_lt]; push_cast; constructor <;> linarith
    · unfold bounds
      rw [if_pos (by linarith), if_pos (by linarith), if_pos (by linarith), if_pos (by linarith), if_pos (by linarith), if_pos (by linarith), if_pos (by linarith)]

/-- No positive value of the format is at most zero. -/
theorem values_zero : values 0 = 0 := by unfold values; norm_num

/-- The kernel's code with a zero's sign cleared is the reference's code. -/
theorem code_eq (t : ℝ) (ht : |t| ≤ 6) : clr (raw t) = code t := by
  unfold raw code clr
  rcases good t ht with ⟨h1, h2⟩ | ⟨h1, h2, h3, h4⟩
  · rw [h1, h2, abs_zero, values_zero]
    unfold sgn; split <;> simp
  · rw [h4]
    have : sgn (rnd t) = sgn t := by unfold sgn; simp only [h3]
    rw [this, if_neg]
    unfold sgn; split <;> omega

/-- The kernel's code has four bits. -/
theorem raw_lt (t : ℝ) : raw t < 16 := by
  unfold raw sgn bounds; split_ifs <;> omega

/-- So has the reference's. -/
theorem code_lt (t : ℝ) : code t < 16 := by
  unfold code sgn values; split_ifs <;> omega

/-! ### The constants of the two programs as reals -/

theorem lit_quarter : Ideal.ofBits .f32 0x3E800000#32 = ((1 / 4 : ℝ) : EReal) := by
  simp [Ideal.ofBits, Ideal.ieee, -EReal.coe_mul]; norm_num
theorem lit_neg_quarter : Ideal.ofBits .f32 0xBE800000#32 = ((-(1 / 4) : ℝ) : EReal) := by
  simp [Ideal.ofBits, Ideal.ieee, -EReal.coe_mul, -EReal.coe_neg]; norm_num
theorem lit_quarter16 : Ideal.ofBits .bf16 0x3E80#16 = ((1 / 4 : ℝ) : EReal) := by
  simp [Ideal.ofBits, Ideal.ieee, -EReal.coe_mul]; norm_num
theorem lit_neg_quarter16 : Ideal.ofBits .bf16 0xBE80#16 = ((-(1 / 4) : ℝ) : EReal) := by
  simp [Ideal.ofBits, Ideal.ieee, -EReal.coe_mul, -EReal.coe_neg]; norm_num
theorem lit_3_4 : Ideal.ofBits .f32 0x3F400000#32 = ((3 / 4 : ℝ) : EReal) := by
  simp [Ideal.ofBits, Ideal.ieee, -EReal.coe_mul]; norm_num
theorem lit_5_4 : Ideal.ofBits .f32 0x3FA00000#32 = ((5 / 4 : ℝ) : EReal) := by
  simp [Ideal.ofBits, Ideal.ieee, -EReal.coe_mul]; norm_num
theorem lit_7_4 : Ideal.ofBits .f32 0x3FE00000#32 = ((7 / 4 : ℝ) : EReal) := by
  simp [Ideal.ofBits, Ideal.ieee, -EReal.coe_mul]; norm_num
theorem lit_5_2 : Ideal.ofBits .f32 0x40200000#32 = ((5 / 2 : ℝ) : EReal) := by
  simp [Ideal.ofBits, Ideal.ieee, -EReal.coe_mul]; norm_num
theorem lit_7_2 : Ideal.ofBits .f32 0x40600000#32 = ((7 / 2 : ℝ) : EReal) := by
  simp [Ideal.ofBits, Ideal.ieee, -EReal.coe_mul]; norm_num
theorem lit_5 : Ideal.ofBits .f32 0x40A00000#32 = ((5 : ℝ) : EReal) := by
  simp [Ideal.ofBits, Ideal.ieee, -EReal.coe_mul]; norm_num
theorem lit_6 : Ideal.ofBits .f32 0x40C00000#32 = ((6 : ℝ) : EReal) := by
  simp [Ideal.ofBits, Ideal.ieee, -EReal.coe_mul]; norm_num
theorem lit_neg_6 : Ideal.ofBits .f32 0xC0C00000#32 = ((-6 : ℝ) : EReal) := by
  simp [Ideal.ofBits, Ideal.ieee, -EReal.coe_mul, -EReal.coe_neg]; norm_num
theorem lit_1_2 : Ideal.ofBits .f32 0x3F000000#32 = ((1 / 2 : ℝ) : EReal) := by
  simp [Ideal.ofBits, Ideal.ieee, -EReal.coe_mul]; norm_num
theorem lit_1 : Ideal.ofBits .f32 0x3F800000#32 = ((1 : ℝ) : EReal) := by
  simp
theorem lit_3_2 : Ideal.ofBits .f32 0x3FC00000#32 = ((3 / 2 : ℝ) : EReal) := by
  simp [Ideal.ofBits, Ideal.ieee, -EReal.coe_mul]; norm_num
theorem lit_2 : Ideal.ofBits .f32 0x40000000#32 = ((2 : ℝ) : EReal) := by
  simp [Ideal.ofBits, Ideal.ieee, -EReal.coe_mul]; norm_num
theorem lit_3 : Ideal.ofBits .f32 0x40400000#32 = ((3 : ℝ) : EReal) := by
  simp [Ideal.ofBits, Ideal.ieee, -EReal.coe_mul]; norm_num
theorem lit_4 : Ideal.ofBits .f32 0x40800000#32 = ((4 : ℝ) : EReal) := by
  simp [Ideal.ofBits, Ideal.ieee, -EReal.coe_mul]; norm_num

/-- A clipped value is a real number of magnitude at most 6. -/
theorem clip_real (x : EReal) :
    ∃ r : ℝ, |r| ≤ 6 ∧ min ((6 : ℝ) : EReal) (max ((-6 : ℝ) : EReal) x) = (r : EReal) := by
  have h1 : min ((6 : ℝ) : EReal) (max ((-6 : ℝ) : EReal) x) ≤ ((6 : ℝ) : EReal) := min_le_left _ _
  have h2 : ((-6 : ℝ) : EReal) ≤ min ((6 : ℝ) : EReal) (max ((-6 : ℝ) : EReal) x) :=
    le_min (EReal.coe_le_coe_iff.2 (by norm_num)) (le_max_left _ _)
  generalize min ((6 : ℝ) : EReal) (max ((-6 : ℝ) : EReal) x) = y at *
  induction y with
  | bot => exact absurd h2 (by simp)
  | top => exact absurd h1 (by simp)
  | coe r =>
    refine ⟨r, abs_le.2 ⟨?_, ?_⟩, rfl⟩
    · exact EReal.coe_le_coe_iff.1 h2
    · exact EReal.coe_le_coe_iff.1 h1

/-- A one-bit comparison widened to 32 bits is the number 1 or 0. -/
theorem bit_eq (p : Prop) [Decidable p] :
    BitVec.setWidth 32 (BitVec.ofBool (decide p)) = BitVec.ofNat 32 (if p then 1 else 0) := by
  by_cases h : p <;> simp [h]

end Cert.Proof.Code
end
-- ==== Proof.Bytes.lean ====
/-
  Two words of four codes each merged into nibbles, and the signs of zero codes cleared: what
  every byte of the word is.
-/
module

public import proofs.«01_k».proof.Proof.Lanes
public import proofs.«01_k».proof.Proof.Code
public import Idealize.ShloMosaic.Lib.BitcastFour

@[expose] public section
set_option maxRecDepth 16384
noncomputable section
open Idealize.ShloMosaic Idealize.ShloMosaic.TcCoe

namespace Cert.Proof.Bytes
open Cert.KernelIdeal Cert.KernelIdeal.Gen Cert.Proof.Lanes Cert.Proof.Code

/-- Nibble number `i` of a number. -/
def nib (z i : ℕ) : ℕ := z / 2 ^ (4 * i) % 2 ^ 4

/-- A four-bit field is below 16. -/
theorem nib_lt (z i : ℕ) : nib z i < 16 := Nat.mod_lt _ (by decide)

/-- The fields of a conjunction. -/
theorem nib_and (a b i : ℕ) : nib (a &&& b) i = nib a i &&& nib b i := by
  unfold nib; rw [Nat.and_div_two_pow, Nat.and_mod_two_pow]

/-- The fields of a disjunction. -/
theorem nib_or (a b i : ℕ) : nib (a ||| b) i = nib a i ||| nib b i := by
  unfold nib; rw [Nat.or_div_two_pow, Nat.or_mod_two_pow]

/-- Every field of 0x77777777 is 7. -/
theorem nib_sevens (i : ℕ) (hi : i < 8) : nib 2004318071 i = 7 := by
  interval_cases i <;> rfl

/-- Adding 7 to every nibble of a number whose nibbles are at most 7 carries nowhere. -/
theorem nib_add (M : ℕ) (hM : M < 2 ^ 32) (h : ∀ i, i < 8 → nib M i ≤ 7) (i : ℕ) (hi : i < 8) :
    nib ((M + 2004318071) % 2 ^ 32) i = nib M i + 7 := by
  have h0 := h 0 (by decide)
  have h1 := h 1 (by decide)
  have h2 := h 2 (by decide)
  have h3 := h 3 (by decide)
  have h4 := h 4 (by decide)
  have h5 := h 5 (by decide)
  have h6 := h 6 (by decide)
  have h7 := h 7 (by decide)
  unfold nib at *
  norm_num at *
  interval_cases i <;> norm_num <;> omega

/-- The nibble after clearing, in terms of the nibble before. -/
theorem nib_fin : ∀ n : Fin 16, n.val &&& (((n.val &&& 7) + 7) ||| 7) = clr n.val := by decide

/-- The clearing of a word, on its nibbles. -/
theorem nib_clear (z : BitVec 32) (i : ℕ) (hi : i < 8) :
    nib (z &&& (((z &&& 2004318071#32) + 2004318071#32) ||| 2004318071#32)).toNat i = clr (nib z.toNat i) := by
  have hc : (2004318071#32).toNat = 2004318071 := rfl
  rw [BitVec.toNat_and, BitVec.toNat_or, BitVec.toNat_add, nib_and, nib_or, hc]
  have hm : ∀ i, i < 8 → nib (z &&& 2004318071#32).toNat i = nib z.toNat i &&& 7 := fun i hi => by
    rw [BitVec.toNat_and, nib_and, hc, nib_sevens i hi]
  rw [nib_add _ (z &&& 2004318071#32).isLt (fun i hi => by rw [hm i hi]; exact Nat.and_le_right) i hi, hm i hi,
    nib_sevens i hi]
  exact nib_fin ⟨nib z.toNat i, nib_lt _ _⟩

/-- The merge of two words whose bytes are four-bit numbers, on its nibbles. -/
theorem nib_merge (a b : BitVec 32) (n m : ℕ → ℕ) (hn : ∀ e, e < 4 → n e < 16) (hm : ∀ e, e < 4 → m e < 16)
    (ha : ∀ e, e < 4 → a.toNat / 2 ^ (8 * e) % 2 ^ 8 = n e) (hb : ∀ e, e < 4 → b.toNat / 2 ^ (8 * e) % 2 ^ 8 = m e)
    (e : ℕ) (he : e < 4) :
    nib (a ||| b <<< 4).toNat (2 * e) = n e ∧ nib (a ||| b <<< 4).toNat (2 * e + 1) = m e := by
  rw [BitVec.toNat_or, BitVec.toNat_shiftLeft, nib_or, nib_or, Nat.shiftLeft_eq]
  have ba := a.isLt
  have bb := b.isLt
  have hn0 := hn 0 (by decide); have hn1 := hn 1 (by decide); have hn2 := hn 2 (by decide); have hn3 := hn 3 (by decide)
  have hm0 := hm 0 (by decide); have hm1 := hm 1 (by decide); have hm2 := hm 2 (by decide); have hm3 := hm 3 (by decide)
  have ha0 := ha 0 (by decide); have ha1 := ha 1 (by decide); have ha2 := ha 2 (by decide); have ha3 := ha 3 (by decide)
  have hb0 := hb 0 (by decide); have hb1 := hb 1 (by decide); have hb2 := hb 2 (by decide); have hb3 := hb 3 (by decide)
  generalize a.toNat = A at *
  generalize b.toNat = B at *
  have ea : nib A (2 * e) = n e ∧ nib A (2 * e + 1) = 0 := by
    unfold nib; norm_num at *
    interval_cases e <;> norm_num at * <;> omega
  have eb : nib (B * 2 ^ 4 % 2 ^ 32) (2 * e) = 0 ∧ nib (B * 2 ^ 4 % 2 ^ 32) (2 * e + 1) = m e := by
    unfold nib; norm_num at *
    interval_cases e <;> norm_num at * <;> omega
  rw [ea.1, ea.2, eb.1, eb.2]
  simp

/-- A byte of a word is its two nibbles. -/
theorem byte_nib (z : BitVec 32) (e : ℕ) :
    z.extractLsb' (8 * e) 8 = BitVec.ofNat 8 (nib z.toNat (2 * e) + 16 * nib z.toNat (2 * e + 1)) := by
  apply BitVec.eq_of_toNat_eq
  rw [BitVec.extractLsb'_toNat, BitVec.toNat_ofNat, Nat.shiftRight_eq_div_pow]
  unfold nib
  have h1 : 4 * (2 * e) = 8 * e := by ring
  have h2 : 2 ^ (4 * (2 * e + 1)) = 2 ^ (8 * e) * 16 := by rw [show 4 * (2 * e + 1) = 8 * e + 4 by ring, pow_add]; rfl
  rw [h1, h2, ← Nat.div_div_eq_div_mul]
  generalize z.toNat / 2 ^ (8 * e) = Y
  omega

/-- Merged and cleared: the bytes, where the bytes of the two words are four-bit numbers. -/
theorem byte_cleared (a b : BitVec 32) (n m : ℕ → ℕ) (hn : ∀ e, e < 4 → n e < 16) (hm : ∀ e, e < 4 → m e < 16)
    (ha : ∀ e, e < 4 → a.extractLsb' (8 * e) 8 = BitVec.ofNat 8 (n e))
    (hb : ∀ e, e < 4 → b.extractLsb' (8 * e) 8 = BitVec.ofNat 8 (m e)) (e : ℕ) (he : e < 4) :
    (IntOp.andi (IntOp.ori a (IntOp.shli .vector b 4#32)) (IntOp.ori (IntOp.addi (IntOp.andi (IntOp.ori a (IntOp.shli .vector b 4#32)) 2004318071#32) 2004318071#32) 2004318071#32)).extractLsb' (8 * e) 8
      = BitVec.ofNat 8 (clr (n e) + 16 * clr (m e)) := by
  have conv : ∀ (z : BitVec 32) (k : ℕ → ℕ), (∀ e, e < 4 → k e < 16) → (∀ e, e < 4 → z.extractLsb' (8 * e) 8 = BitVec.ofNat 8 (k e)) →
      ∀ e, e < 4 → z.toNat / 2 ^ (8 * e) % 2 ^ 8 = k e := fun z k hk h e he => by
    have := congrArg BitVec.toNat (h e he)
    rw [BitVec.extractLsb'_toNat, BitVec.toNat_ofNat, Nat.shiftRight_eq_div_pow] at this
    rw [this]; exact Nat.mod_eq_of_lt (lt_trans (hk e he) (by decide))
  have hs : IntOp.shli .vector b 4#32 = b <<< 4 := by
    simp [IntOp.shli]
  rw [hs]
  show ((a ||| b <<< 4) &&& ((((a ||| b <<< 4) &&& 2004318071#32) + 2004318071#32) ||| 2004318071#32)).extractLsb' (8 * e) 8 = _
  obtain ⟨h0, h1⟩ := nib_merge a b n m hn hm (conv a n hn ha) (conv b m hm hb) e he
  rw [byte_nib, nib_clear _ _ (by omega), nib_clear _ _ (by omega), h0, h1]

/-- Byte `e` of the word of four rows' codes is the code of row `4a + e`. -/
theorem packed_byte {F : FTy → Type} [FloatOps F] (t : FVec F S64x128 .f32) (a : Fin 16) (l : Fin 128) (e : ℕ) (he : e < 4) :
    (packed t (ix2 a l)).extractLsb' (8 * e) 8 = codes t (ix2 ⟨4 * a.val + e, by omega⟩ l) := by
  apply BitVec.eq_of_getLsbD_eq
  intro q hq
  rw [BitVec.getLsbD_extractLsb']
  have := bitcast_8_32_getLsbD_ix2 (R := 64) (r := 16) (n := 128) (codes t) bitcasts_S64x128_w8_S16x128_w32 a l (8 * e + q) (by omega)
    ⟨4 * a.val + e, by omega⟩ (by show 4 * a.val + e = 4 * a.val + (8 * e + q) / 8; omega)
  rw [show (8 * e + q) % 8 = q by omega] at this
  simp only [hq, decide_true, Bool.true_and]
  exact this

/-- Words read as bytes: row `r` is byte `r % 4` of word row `r / 4`. -/
theorem unpacked_byte (z : IVec S16x128 32) (r : Fin 64) (l : Fin 128) :
    bitcast S64x128 8 z bitcasts_S16x128_w32_S64x128_w8 (ix2 r l)
      = (z (ix2 ⟨r.val / 4, by omega⟩ l)).extractLsb' (8 * (r.val % 4)) 8 := by
  apply BitVec.eq_of_getLsbD_eq
  intro q hq
  rw [bitcast_getLsbD z bitcasts_S16x128_w32_S64x128_w8 _ q hq (by decide), BitVec.getLsbD_extractLsb']
  have hrow : Shape.row S64x128 (ix2 r l) = r.val := rfl
  have e1 : (Shape.row S64x128 (ix2 r l) * 8 + q) / 32 = r.val / 4 := by rw [hrow]; omega
  have e2 : (Shape.row S64x128 (ix2 r l) * 8 + q) % 32 = 8 * (r.val % 4) + q := by rw [hrow]; omega
  rw [e2]
  simp only [hq, decide_true, Bool.true_and]
  congr 2
  funext c
  match c with
  | ⟨0, _⟩ => exact Fin.ext ((bitcasts_S16x128_w32_S64x128_w8.srcIdx_row _ _ _ ⟨0, Nat.zero_lt_two⟩ rfl).trans e1)
  | ⟨1, _⟩ => exact Fin.ext (bitcasts_S16x128_w32_S64x128_w8.srcIdx_other _ _ _ ⟨1, Nat.one_lt_two⟩ (by show ¬ 1 + 2 = 2; omega))

end Cert.Proof.Bytes
end
-- ==== Proof.Weight.lean ====
/-
  The rotation weights' closed form: what every entry of the kernel's 256 × 256 table is.
-/
module

public import proofs.«01_k».proof.KernelIdeal

@[expose] public section
noncomputable section

namespace Cert.Proof.Weight
open Cert.KernelIdeal

/-- The parity of the number of set bits of a four-bit number. -/
def parity (q : ℕ) : ℕ := (q % 2 + q / 2 % 2 + q / 4 % 2 + q / 8) % 2

/-- The bf16 pattern at row `r`, column `c` of the table. Row `r` is input channel `r % 16` of
    block `r / 16`; column `c` is output channel `2 ((c % 128) / 16) + c / 128` of block `c % 16`.
    Entries between different blocks are zero, the others ±1/4 by the parity of the common bits. -/
def word (r c : ℕ) : BitVec 16 :=
  if r / 16 = c % 16 then
    (if parity ((r % 16) &&& (2 * (c % 128 / 16) + c / 128)) = 0 then 0x3E80#16 else 0xBE80#16)
  else 0#16

end Cert.Proof.Weight
end
-- ==== Proof.Table.lean ====
/-
  The printed table of weights as lookups.

  The printed table is a tree of matches on the digits of the entry's number. `leaf` and `node`
  are those matches with the arms as functions.
-/
module

public import proofs.«01_k».proof.Proof.Weight
public import Mathlib.Tactic.IntervalCases

@[expose] public section
set_option maxRecDepth 100000
noncomputable section

namespace Cert.Proof.Weight
open Cert.KernelIdeal

/-- A printed table of 128 entries, its entry `k` being `f k`. -/
def leaf (f : ℕ → BitVec 16) (i : ℕ) : BitVec 16 := match i % 128 with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31
  | 32 => f 32 | 33 => f 33 | 34 => f 34 | 35 => f 35 | 36 => f 36 | 37 => f 37 | 38 => f 38 | 39 => f 39
  | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55
  | 56 => f 56 | 57 => f 57 | 58 => f 58 | 59 => f 59 | 60 => f 60 | 61 => f 61 | 62 => f 62 | 63 => f 63
  | 64 => f 64 | 65 => f 65 | 66 => f 66 | 67 => f 67 | 68 => f 68 | 69 => f 69 | 70 => f 70 | 71 => f 71
  | 72 => f 72 | 73 => f 73 | 74 => f 74 | 75 => f 75 | 76 => f 76 | 77 => f 77 | 78 => f 78 | 79 => f 79
  | 80 => f 80 | 81 => f 81 | 82 => f 82 | 83 => f 83 | 84 => f 84 | 85 => f 85 | 86 => f 86 | 87 => f 87
  | 88 => f 88 | 89 => f 89 | 90 => f 90 | 91 => f 91 | 92 => f 92 | 93 => f 93 | 94 => f 94 | 95 => f 95
  | 96 => f 96 | 97 => f 97 | 98 => f 98 | 99 => f 99 | 100 => f 100 | 101 => f 101 | 102 => f 102 | 103 => f 103
  | 104 => f 104 | 105 => f 105 | 106 => f 106 | 107 => f 107 | 108 => f 108 | 109 => f 109 | 110 => f 110 | 111 => f 111
  | 112 => f 112 | 113 => f 113 | 114 => f 114 | 115 => f 115 | 116 => f 116 | 117 => f 117 | 118 => f 118 | 119 => f 119
  | 120 => f 120 | 121 => f 121 | 122 => f 122 | 123 => f 123 | 124 => f 124 | 125 => f 125 | 126 => f 126 | 127 => f 127
  | _ => 0#16

/-- A printed node over 128 tables, its table `k` being `g k`. -/
def node (g : ℕ → ℕ → BitVec 16) (i : ℕ) : BitVec 16 := match i / 128 % 128 with
  | 0 => g 0 i | 1 => g 1 i | 2 => g 2 i | 3 => g 3 i | 4 => g 4 i | 5 => g 5 i | 6 => g 6 i
  | 7 => g 7 i | 8 => g 8 i | 9 => g 9 i | 10 => g 10 i | 11 => g 11 i | 12 => g 12 i | 13 => g 13 i
  | 14 => g 14 i | 15 => g 15 i | 16 => g 16 i | 17 => g 17 i | 18 => g 18 i | 19 => g 19 i | 20 => g 20 i
  | 21 => g 21 i | 22 => g 22 i | 23 => g 23 i | 24 => g 24 i | 25 => g 25 i | 26 => g 26 i | 27 => g 27 i
  | 28 => g 28 i | 29 => g 29 i | 30 => g 30 i | 31 => g 31 i | 32 => g 32 i | 33 => g 33 i | 34 => g 34 i
  | 35 => g 35 i | 36 => g 36 i | 37 => g 37 i | 38 => g 38 i | 39 => g 39 i | 40 => g 40 i | 41 => g 41 i
  | 42 => g 42 i | 43 => g 43 i | 44 => g 44 i | 45 => g 45 i | 46 => g 46 i | 47 => g 47 i | 48 => g 48 i
  | 49 => g 49 i | 50 => g 50 i | 51 => g 51 i | 52 => g 52 i | 53 => g 53 i | 54 => g 54 i | 55 => g 55 i
  | 56 => g 56 i | 57 => g 57 i | 58 => g 58 i | 59 => g 59 i | 60 => g 60 i | 61 => g 61 i | 62 => g 62 i
  | 63 => g 63 i | 64 => g 64 i | 65 => g 65 i | 66 => g 66 i | 67 => g 67 i | 68 => g 68 i | 69 => g 69 i
  | 70 => g 70 i | 71 => g 71 i | 72 => g 72 i | 73 => g 73 i | 74 => g 74 i | 75 => g 75 i | 76 => g 76 i
  | 77 => g 77 i | 78 => g 78 i | 79 => g 79 i | 80 => g 80 i | 81 => g 81 i | 82 => g 82 i | 83 => g 83 i
  | 84 => g 84 i | 85 => g 85 i | 86 => g 86 i | 87 => g 87 i | 88 => g 88 i | 89 => g 89 i | 90 => g 90 i
  | 91 => g 91 i | 92 => g 92 i | 93 => g 93 i | 94 => g 94 i | 95 => g 95 i | 96 => g 96 i | 97 => g 97 i
  | 98 => g 98 i | 99 => g 99 i | 100 => g 100 i | 101 => g 101 i | 102 => g 102 i | 103 => g 103 i | 104 => g 104 i
  | 105 => g 105 i | 106 => g 106 i | 107 => g 107 i | 108 => g 108 i | 109 => g 109 i | 110 => g 110 i | 111 => g 111 i
  | 112 => g 112 i | 113 => g 113 i | 114 => g 114 i | 115 => g 115 i | 116 => g 116 i | 117 => g 117 i | 118 => g 118 i
  | 119 => g 119 i | 120 => g 120 i | 121 => g 121 i | 122 => g 122 i | 123 => g 123 i | 124 => g 124 i | 125 => g 125 i
  | 126 => g 126 i | 127 => g 127 i
  | _ => 0#16

/-- A leaf's entry. -/
theorem leaf_eq (f : ℕ → BitVec 16) (i : ℕ) : leaf f i = f (i % 128) := by
  unfold leaf
  have h : i % 128 < 128 := Nat.mod_lt _ (by decide)
  generalize i % 128 = k at h ⊢
  interval_cases k <;> rfl

/-- A node's entry. -/
theorem node_eq (g : ℕ → ℕ → BitVec 16) (i : ℕ) : node g i = g (i / 128 % 128) i := by
  unfold node
  have h : i / 128 % 128 < 128 := Nat.mod_lt _ (by decide)
  generalize i / 128 % 128 = k at h ⊢
  interval_cases k <;> rfl

end Cert.Proof.Weight
end
-- ==== Proof.Weights.lean ====
/-
  Every entry of the kernel's weights is the closed form.
-/
module

public import proofs.«01_k».proof.Proof.Table

@[expose] public section
set_option maxRecDepth 100000
set_option maxHeartbeats 4000000
noncomputable section

namespace Cert.Proof.Weight
open Cert.KernelIdeal

/-- The entry at place `c` of table `k` of part `q`, by the closed form. -/
def entry (q k c : ℕ) : BitVec 16 := word (64 * q + k / 2) (128 * (k % 2) + c)

/-- The four parts of the table, each by evaluation. -/
theorem part0 : lit0t1_0 = node fun k => leaf (entry 0 k) := rfl
theorem part1 : lit0t1_1 = node fun k => leaf (entry 1 k) := rfl
theorem part2 : lit0t1_2 = node fun k => leaf (entry 2 k) := rfl
theorem part3 : lit0t1_3 = node fun k => leaf (entry 3 k) := rfl

/-- A part's entries by their number. -/
theorem part_eq (q n : ℕ) (hn : n / 16384 = q) :
    node (fun k => leaf (entry q k)) n = word (n / 256) (n % 256) := by
  rw [node_eq, leaf_eq]
  unfold entry
  congr 1 <;> omega

/-- The table's entry number `256 r + c` is the pattern at row `r`, column `c`. -/
theorem lit0_eq (r c : ℕ) (hr : r < 256) (hc : c < 256) (i : Fin 65536) (hi : i.val = 256 * r + c) :
    lit0 i = word r c := by
  obtain ⟨n, hlt⟩ := i
  have hi : n = 256 * r + c := hi
  show lit0t n = word r c
  rw [show r = n / 256 by omega, show c = n % 256 by omega]
  unfold lit0t
  have hq : n / 16384 < 4 := by omega
  rcases (by omega : n / 16384 = 0 ∨ n / 16384 = 1 ∨ n / 16384 = 2 ∨ n / 16384 = 3) with h | h | h | h
  · rw [← part_eq 0 n h, ← part0, h]; rfl
  · rw [← part_eq 1 n h, ← part1, h]; rfl
  · rw [← part_eq 2 n h, ← part2, h]; rfl
  · rw [← part_eq 3 n h, ← part3, h]; rfl

end Cert.Proof.Weight
end
-- ==== Proof.Rotate.lean ====
/-
  The rotation inside one trip: the matrix product of the stacked channel groups with the
  weights is, at every place, the sixteen-term rotation of one block of channels.
-/
module

public import proofs.«01_k».proof.Proof.Lanes
public import proofs.«01_k».proof.Proof.Weights
public import proofs.«01_k».proof.Proof.Code

@[expose] public section
set_option maxRecDepth 16384
noncomputable section
open Idealize.ShloMosaic Idealize.ShloMosaic.TcCoe Idealize.SL.Sem

namespace Cert.Proof.Rotate
open Cert.KernelIdeal Cert.KernelIdeal.Gen Cert.Proof.Weight

/-- Entry `(i, o)` of the sixteen-channel rotation: ±1/4 by the parity of the common bits. -/
def had (i o : ℕ) : EReal := if parity (i &&& o) = 0 then ((1 / 4 : ℝ) : EReal) else ((-(1 / 4) : ℝ) : EReal)

/-- Output channel `o` of block `b`, rotated: from a row of channels `x`. -/
def rot (x : ℕ → EReal) (b o : ℕ) : EReal := ∑ i : Fin 16, x (16 * b + i.val) * had i.val o

/-- The weights as the kernel is given them. -/
def weights : FVec Ideal S256x256 .bf16 := fun i => (FloatOps.ofBits .bf16 (lit0 (S256x256.rowMajor i)) : Ideal .bf16)

/-- An entry of the weights. -/
theorem weights_apply (g i c : ℕ) (hg : g < 16) (hi : i < 16) (hc : c < 256) (hr : 16 * g + i < 256) :
    weights (ix2 ⟨16 * g + i, hr⟩ ⟨c, hc⟩) = if g = c % 16 then had i (2 * (c % 128 / 16) + c / 128) else 0 := by
  unfold weights
  refine (congrArg (Ideal.ofBits .bf16) (lit0_eq (16 * g + i) c hr hc _ (by
    rw [Shape.rowMajor_val_two]
    show (16 * g + i) * 256 + c = _
    ring))).trans ?_
  unfold word
  have h1 : (16 * g + i) / 16 = g := by omega
  have h2 : (16 * g + i) % 16 = i := by omega
  rw [h1, h2]
  by_cases h : g = c % 16
  · rw [if_pos h, if_pos h]
    unfold had
    split
    · exact Code.lit_quarter16
    · exact Code.lit_neg_quarter16
  · rw [if_neg h, if_neg h]
    exact Ideal.ofBits_zero_bf16

/-- Group `k` of 256 channels of a block of rows. -/
def group (X : FVec Ideal S64x2048 .bf16) (k : Fin 8) : FVec Ideal S64x256 .bf16 :=
  fun j => X (ix2 (j 0) ⟨256 * k.val + (j 1).val, by have : (j 1).val < 256 := (j 1).isLt; omega⟩)

/-- The stacked channel groups: eight groups of 256 channels, one below the other. -/
def stacked (X : FVec Ideal S64x2048 .bf16) : FVec Ideal S512x256 .bf16 :=
  concatenate S512x256 0
    [⟨S64x256, group X 0⟩, ⟨S64x256, group X 1⟩, ⟨S64x256, group X 2⟩, ⟨S64x256, group X 3⟩,
     ⟨S64x256, group X 4⟩, ⟨S64x256, group X 5⟩, ⟨S64x256, group X 6⟩, ⟨S64x256, group X 7⟩]
    concatenates_S64x256_S64x256_S64x256_S64x256_S64x256_S64x256_S64x256_S64x256_S512x256_d0

/-- Row `64 k + r` of the stack is row `r` of group `k`. -/
theorem stacked_apply (X : FVec Ideal S64x2048 .bf16) (k : Fin 8) (r : Fin 64) (c : Fin 256) (h : 64 * k.val + r.val < 512) :
    stacked X (ix2 ⟨64 * k.val + r.val, h⟩ c) = X (ix2 r ⟨256 * k.val + c.val, by omega⟩) := by
  refine (concatenate_ofFn_apply (t := S512x256) (s₁ := S64x256) 0 (group X)
    concatenates_S64x256_S64x256_S64x256_S64x256_S64x256_S64x256_S64x256_S64x256_S512x256_d0 rfl 64 rfl _ k
    (by show (64 * k.val + r.val) / 64 = k.val; omega) (ix2 r c) ?_ ?_).trans rfl
  · show r.val = (64 * k.val + r.val) % 64; omega
  · intro a ha
    match a with
    | ⟨0, _⟩ => exact absurd rfl ha
    | ⟨1, _⟩ => rfl

/-- The printed product is the product with the stack. -/
theorem product_eq (X : FVec Ideal S64x2048 .bf16) (W : FVec Ideal S256x256 .bf16) :
    k1_pay3 X W = matmul (F := Ideal) dot_S512x256_S256x256_S512x256_1_0_0_1_n_n none (stacked X) W (constant S512x256 .f32 0x00000000#32) := by
  unfold k1_pay3 stacked
  have e0 : extractStridedSlice S64x256 ![0, 0] X slices_S64x2048_o0_0_S64x256 = group X 0 := by
    funext j; idx_vars j; pointwise [group]
  have e1 : extractStridedSlice S64x256 ![0, 256] X slices_S64x2048_o0_256_S64x256 = group X 1 := by
    funext j; idx_vars j; pointwise [group]
  have e2 : extractStridedSlice S64x256 ![0, 512] X slices_S64x2048_o0_512_S64x256 = group X 2 := by
    funext j; idx_vars j; pointwise [group]
  have e3 : extractStridedSlice S64x256 ![0, 768] X slices_S64x2048_o0_768_S64x256 = group X 3 := by
    funext j; idx_vars j; pointwise [group]
  have e4 : extractStridedSlice S64x256 ![0, 1024] X slices_S64x2048_o0_1024_S64x256 = group X 4 := by
    funext j; idx_vars j; pointwise [group]
  have e5 : extractStridedSlice S64x256 ![0, 1280] X slices_S64x2048_o0_1280_S64x256 = group X 5 := by
    funext j; idx_vars j; pointwise [group]
  have e6 : extractStridedSlice S64x256 ![0, 1536] X slices_S64x2048_o0_1536_S64x256 = group X 6 := by
    funext j; idx_vars j; pointwise [group]
  have e7 : extractStridedSlice S64x256 ![0, 1792] X slices_S64x2048_o0_1792_S64x256 = group X 7 := by
    funext j; idx_vars j; pointwise [group]
  dsimp only
  rw [shapeCast_self, e0, e1, e2, e3, e4, e5, e6, e7]

/-- A row of channels, as a function of the channel's number. -/
def chans (X : FVec Ideal S64x2048 .bf16) (r : Fin 64) : ℕ → EReal :=
  fun n => if hn : n < 2048 then X (ix2 r ⟨n, hn⟩) else 0

/-- The product at a place is a rotated channel. -/
theorem product_apply (X : FVec Ideal S64x2048 .bf16) (k : Fin 8) (r : Fin 64) (c : Fin 256) (h : 64 * k.val + r.val < 512) :
    (k1_pay3 (F := Ideal) X weights (ix2 ⟨64 * k.val + r.val, h⟩ c) : EReal)
      = rot (chans X r) (16 * k.val + c.val % 16) (2 * (c.val % 128 / 16) + c.val / 128) := by
  rw [product_eq]
  have hs : ∀ d, stacked X (ix2 ⟨64 * k.val + r.val, h⟩ d) = X (ix2 r ⟨256 * k.val + d.val, by omega⟩) :=
    fun d => stacked_apply X k r d h
  generalize stacked X = S at hs
  have hw := weights_apply
  generalize weights = W at hw
  pointwise
  simp only [hs]
  rw [← (finProdFinEquiv (m := 16) (n := 16)).sum_comp, Fintype.sum_prod_type,
    Finset.sum_eq_single (⟨c.val % 16, by omega⟩ : Fin 16)]
  · unfold rot
    refine Finset.sum_congr rfl fun i _ => ?_
    have e := hw (c.val % 16) i.val c.val (by omega) i.isLt c.isLt (by have := i.isLt; omega)
    rw [if_pos rfl] at e
    have e1 : (finProdFinEquiv ((⟨c.val % 16, by omega⟩ : Fin 16), i) : Fin 256) = ⟨16 * (c.val % 16) + i.val, by have := i.isLt; omega⟩ := by
      apply Fin.ext; rw [finProdFinEquiv_apply_val]; exact Nat.add_comm _ _
    rw [e1, e]
    unfold chans
    have hn : 16 * (16 * k.val + c.val % 16) + i.val < 2048 := by have := i.isLt; have := k.isLt; omega
    rw [dif_pos hn]
    congr 3
    apply Fin.ext
    show 256 * k.val + (16 * (c.val % 16) + i.val) = _
    ring
  · intro g _ hg
    refine Finset.sum_eq_zero fun i _ => ?_
    have e := hw g.val i.val c.val g.isLt i.isLt c.isLt (by have := i.isLt; have := g.isLt; omega)
    rw [if_neg (fun h => hg (Fin.ext h))] at e
    have e1 : (finProdFinEquiv (g, i) : Fin 256) = ⟨16 * g.val + i.val, by have := i.isLt; have := g.isLt; omega⟩ := by
      apply Fin.ext; rw [finProdFinEquiv_apply_val]; exact Nat.add_comm _ _
    rw [e1, e, mul_zero]
  · intro hh; exact absurd (Finset.mem_univ _) hh

/-- The same with the place written out: group `k`, half `p`, lane `l`. -/
theorem half (X : FVec Ideal S64x2048 .bf16) (k : Fin 8) (p : Fin 2) (r : Fin 64) (l : Fin 128)
    (a : Fin 512) (c : Fin 256) (ha : a.val = 64 * k.val + r.val) (hc : c.val = 128 * p.val + l.val) :
    (k1_pay3 (F := Ideal) X weights (ix2 a c) : EReal)
      = rot (chans X r) (16 * k.val + l.val % 16) (2 * (l.val / 16) + p.val) := by
  obtain ⟨a, ha'⟩ := a
  subst ha
  rw [product_apply X k r c]
  have := l.isLt
  have := p.isLt
  congr 1 <;> rw [hc] <;> omega

variable (X : FVec Ideal S64x2048 .bf16)

/-- Group 0, half 0. -/
theorem pay4 (r : Fin 64) (l : Fin 128) :
    (k1_pay4 (F := Ideal) X weights (ix2 r l) : EReal) = rot (chans X r) (0 + l.val % 16) (2 * (l.val / 16) + 0) := by
  pointwise [k1_pay4]
  exact (half X 0 0 r l ⟨r.val, by omega⟩ ⟨l.val, by omega⟩ (by simp) (by simp)).trans (by simp)

/-- Group 0, half 1. -/
theorem pay5 (r : Fin 64) (l : Fin 128) :
    (k1_pay5 (F := Ideal) X weights (ix2 r l) : EReal) = rot (chans X r) (0 + l.val % 16) (2 * (l.val / 16) + 1) := by
  pointwise [k1_pay5]
  exact (half X 0 1 r l ⟨r.val, by omega⟩ ⟨128 + l.val, by omega⟩ (by simp) (by simp)).trans (by simp)

/-- Group 1, half 0. -/
theorem pay6 (r : Fin 64) (l : Fin 128) :
    (k1_pay6 (F := Ideal) X weights (ix2 r l) : EReal) = rot (chans X r) (16 + l.val % 16) (2 * (l.val / 16) + 0) := by
  pointwise [k1_pay6]
  exact half X 1 0 r l _ _ (by simp) (by simp)

/-- Group 1, half 1. -/
theorem pay7 (r : Fin 64) (l : Fin 128) :
    (k1_pay7 (F := Ideal) X weights (ix2 r l) : EReal) = rot (chans X r) (16 + l.val % 16) (2 * (l.val / 16) + 1) := by
  pointwise [k1_pay7]
  exact half X 1 1 r l _ _ (by simp) (by simp)

/-- Group 2, half 0. -/
theorem pay8 (r : Fin 64) (l : Fin 128) :
    (k1_pay8 (F := Ideal) X weights (ix2 r l) : EReal) = rot (chans X r) (32 + l.val % 16) (2 * (l.val / 16) + 0) := by
  pointwise [k1_pay8]
  exact half X 2 0 r l _ _ (by simp) (by simp)

/-- Group 2, half 1. -/
theorem pay9 (r : Fin 64) (l : Fin 128) :
    (k1_pay9 (F := Ideal) X weights (ix2 r l) : EReal) = rot (chans X r) (32 + l.val % 16) (2 * (l.val / 16) + 1) := by
  pointwise [k1_pay9]
  exact half X 2 1 r l _ _ (by simp) (by simp)

/-- Group 3, half 0. -/
theorem pay10 (r : Fin 64) (l : Fin 128) :
    (k1_pay10 (F := Ideal) X weights (ix2 r l) : EReal) = rot (chans X r) (48 + l.val % 16) (2 * (l.val / 16) + 0) := by
  pointwise [k1_pay10]
  exact half X 3 0 r l _ _ (by simp) (by simp)

/-- Group 3, half 1. -/
theorem pay11 (r : Fin 64) (l : Fin 128) :
    (k1_pay11 (F := Ideal) X weights (ix2 r l) : EReal) = rot (chans X r) (48 + l.val % 16) (2 * (l.val / 16) + 1) := by
  pointwise [k1_pay11]
  exact half X 3 1 r l _ _ (by simp) (by simp)

/-- Group 4, half 0. -/
theorem pay12 (r : Fin 64) (l : Fin 128) :
    (k1_pay12 (F := Ideal) X weights (ix2 r l) : EReal) = rot (chans X r) (64 + l.val % 16) (2 * (l.val / 16) + 0) := by
  pointwise [k1_pay12]
  exact half X 4 0 r l _ _ (by simp) (by simp)

/-- Group 4, half 1. -/
theorem pay13 (r : Fin 64) (l : Fin 128) :
    (k1_pay13 (F := Ideal) X weights (ix2 r l) : EReal) = rot (chans X r) (64 + l.val % 16) (2 * (l.val / 16) + 1) := by
  pointwise [k1_pay13]
  exact half X 4 1 r l _ _ (by simp) (by simp)

/-- Group 5, half 0. -/
theorem pay14 (r : Fin 64) (l : Fin 128) :
    (k1_pay14 (F := Ideal) X weights (ix2 r l) : EReal) = rot (chans X r) (80 + l.val % 16) (2 * (l.val / 16) + 0) := by
  pointwise [k1_pay14]
  exact half X 5 0 r l _ _ (by simp) (by simp)

/-- Group 5, half 1. -/
theorem pay15 (r : Fin 64) (l : Fin 128) :
    (k1_pay15 (F := Ideal) X weights (ix2 r l) : EReal) = rot (chans X r) (80 + l.val % 16) (2 * (l.val / 16) + 1) := by
  pointwise [k1_pay15]
  exact half X 5 1 r l _ _ (by simp) (by simp)

/-- Group 6, half 0. -/
theorem pay16 (r : Fin 64) (l : Fin 128) :
    (k1_pay16 (F := Ideal) X weights (ix2 r l) : EReal) = rot (chans X r) (96 + l.val % 16) (2 * (l.val / 16) + 0) := by
  pointwise [k1_pay16]
  exact half X 6 0 r l _ _ (by simp) (by simp)

/-- Group 6, half 1. -/
theorem pay17 (r : Fin 64) (l : Fin 128) :
    (k1_pay17 (F := Ideal) X weights (ix2 r l) : EReal) = rot (chans X r) (96 + l.val % 16) (2 * (l.val / 16) + 1) := by
  pointwise [k1_pay17]
  exact half X 6 1 r l _ _ (by simp) (by simp)

/-- Group 7, half 0. -/
theorem pay18 (r : Fin 64) (l : Fin 128) :
    (k1_pay18 (F := Ideal) X weights (ix2 r l) : EReal) = rot (chans X r) (112 + l.val % 16) (2 * (l.val / 16) + 0) := by
  pointwise [k1_pay18]
  exact half X 7 0 r l _ _ (by simp) (by simp)

/-- Group 7, half 1. -/
theorem pay19 (r : Fin 64) (l : Fin 128) :
    (k1_pay19 (F := Ideal) X weights (ix2 r l) : EReal) = rot (chans X r) (112 + l.val % 16) (2 * (l.val / 16) + 1) := by
  pointwise [k1_pay19]
  exact half X 7 1 r l _ _ (by simp) (by simp)

end Cert.Proof.Rotate
end
-- ==== Proof.Sub.lean ====
/-
  One trip of the maximum kernel's loop: the running maxima over the trip's 64 rows.
-/
module

public import proofs.«01_k».proof.Proof.Rotate

@[expose] public section
set_option maxRecDepth 16384
noncomputable section
open Idealize.ShloMosaic Idealize.ShloMosaic.TcCoe Idealize.SL.Sem

namespace Cert.Proof.Sub
open Cert.KernelIdeal Cert.KernelIdeal.Gen Cert.Proof.Lanes Cert.Proof.Rotate

section
variable {F : FTy → Type} [FloatOps F]

/-- The running maxima joined with the eight 8-row slices of a 64-row array. -/
def sub8 (acc : FVec F S8x128 .f32) (m : FVec F S64x128 .f32) : FVec F S8x128 .f32 :=
  maximumf (maximumf (maximumf (maximumf (maximumf (maximumf (maximumf (maximumf acc (extractStridedSlice S8x128 ![0, 0] m slices_S64x128_o0_0_S8x128)) (extractStridedSlice S8x128 ![8, 0] m slices_S64x128_o8_0_S8x128)) (extractStridedSlice S8x128 ![16, 0] m slices_S64x128_o16_0_S8x128)) (extractStridedSlice S8x128 ![24, 0] m slices_S64x128_o24_0_S8x128)) (extractStridedSlice S8x128 ![32, 0] m slices_S64x128_o32_0_S8x128)) (extractStridedSlice S8x128 ![40, 0] m slices_S64x128_o40_0_S8x128)) (extractStridedSlice S8x128 ![48, 0] m slices_S64x128_o48_0_S8x128)) (extractStridedSlice S8x128 ![56, 0] m slices_S64x128_o56_0_S8x128)

/-- What one trip does to the running maxima. -/
def joined (X : Vec F S64x2048 .bf16) (W : Vec F S256x256 .bf16) (acc : FVec F S8x128 .f32) : FVec F S8x128 .f32 :=
  (sub8 (sub8 (sub8 (sub8 (sub8 (sub8 (sub8 (sub8 acc (mag (k1_pay4 X W) (k1_pay5 X W))) (mag (k1_pay6 X W) (k1_pay7 X W))) (mag (k1_pay8 X W) (k1_pay9 X W))) (mag (k1_pay10 X W) (k1_pay11 X W))) (mag (k1_pay12 X W) (k1_pay13 X W))) (mag (k1_pay14 X W) (k1_pay15 X W))) (mag (k1_pay16 X W) (k1_pay17 X W))) (mag (k1_pay18 X W) (k1_pay19 X W)))

/-- The trip's rows of the input, as the body loads them. -/
abbrev rows0 (arg1 : Memref sig .tc .vmem S512x2048 .bf16) (X : BufTy.Contents (Elt F) arg1.view.ty) (k : Fin k0_t1_loop.trips) : Vec F S64x2048 .bf16 :=
  View.readAt (Elt F) arg1.view (Rect.unit (s := S512x2048) (k0_off1 k) S64x2048.size (k0_off1_inb k)).toLoadRect X

/-- The weights, as the body loads them. -/
abbrev wts0 (arg2 : Memref sig .tc .vmem S256x256 .bf16) (X : BufTy.Contents (Elt F) arg2.view.ty) : Vec F S256x256 .bf16 :=
  View.readAt (Elt F) arg2.view (Rect.unit (s := S256x256) ![0, 0] S256x256.size inb_S256x256_S256x256_0_0).toLoadRect X

/-- One trip of the loop. -/
theorem trip_joined (𝒱 : Variants) (c : Dev nD) (bd : Option 𝒱.V) (i : grid0.Coords) (arg1 : Memref sig .tc .vmem S512x2048 .bf16) (harg1 : arg1.IsWhole) (arg2 : Memref sig .tc .vmem S256x256 .bf16) (harg2 : arg2.IsWhole) (arg3 : Memref sig .tc .vmem S8x128 .f32) (harg3 : arg3.IsWhole) (X_arg1 : BufTy.Contents (Elt F) arg1.view.ty) (X_arg2 : BufTy.Contents (Elt F) arg2.view.ty) (k : Fin k0_t1_loop.trips) (acc : FVec F S8x128 .f32) :
    tripR_k0_t1 (F := F) 𝒱 c bd i arg1 harg1 arg2 harg2 arg3 harg3 X_arg1 X_arg2 k acc
      = joined (rows0 arg1 X_arg1 k) (wts0 arg2 X_arg2) acc := by
  unfold tripR_k0_t1 trip_k0_t1
  dsimp only
  rfl
end

/-- The magnitude of an extended real. -/
def abv (x : EReal) : EReal := max x (-x)

/-- A running maximum after eight slices is below a bound exactly when it was and the slices are. -/
theorem sub8_le (acc : FVec Ideal S8x128 .f32) (m : FVec Ideal S64x128 .f32) (i : Fin 8) (l : Fin 128) (B : EReal) :
    (sub8 acc m (ix2 i l) : EReal) ≤ B ↔ (acc (ix2 i l) : EReal) ≤ B ∧ ∀ s : Fin 8, (m (ix2 ⟨8 * s.val + i.val, by omega⟩ l) : EReal) ≤ B := by
  have h : (sub8 acc m (ix2 i l) : EReal) = max (max (max (max (max (max (max (max (acc (ix2 i l))
      (m (ix2 ⟨8 * (0 : Fin 8).val + i.val, by omega⟩ l))) (m (ix2 ⟨8 * (1 : Fin 8).val + i.val, by omega⟩ l)))
      (m (ix2 ⟨8 * (2 : Fin 8).val + i.val, by omega⟩ l))) (m (ix2 ⟨8 * (3 : Fin 8).val + i.val, by omega⟩ l)))
      (m (ix2 ⟨8 * (4 : Fin 8).val + i.val, by omega⟩ l))) (m (ix2 ⟨8 * (5 : Fin 8).val + i.val, by omega⟩ l)))
      (m (ix2 ⟨8 * (6 : Fin 8).val + i.val, by omega⟩ l))) (m (ix2 ⟨8 * (7 : Fin 8).val + i.val, by omega⟩ l)) := by
    pointwise [sub8]
  rw [h]
  simp only [max_le_iff, Fin.forall_fin_succ, IsEmpty.forall_iff, and_true, and_assoc]
  rfl

/-- A pair of halves is below a bound exactly when both are. -/
theorem mag_le (a b : FVec Ideal S64x128 .f32) (j : S64x128.Idx) (B : EReal) :
    (mag a b j : EReal) ≤ B ↔ abv (a j) ≤ B ∧ abv (b j) ≤ B := max_le_iff

/-- One trip: the running maxima are below a bound exactly when they were and every rotated
    channel of the lane's blocks, in the lane's rows, is. -/
theorem joined_le (X : FVec Ideal S64x2048 .bf16) (acc : FVec Ideal S8x128 .f32) (i : Fin 8) (l : Fin 128) (B : EReal) :
    (joined X weights acc (ix2 i l) : EReal) ≤ B ↔ (acc (ix2 i l) : EReal) ≤ B ∧
      ∀ (k s : Fin 8) (p : Fin 2), abv (rot (chans X ⟨8 * s.val + i.val, by omega⟩) (16 * k.val + l.val % 16) (2 * (l.val / 16) + p.val)) ≤ B := by
  unfold joined
  simp only [sub8_le, mag_le, pay4, pay5, pay6, pay7, pay8, pay9, pay10, pay11, pay12, pay13, pay14, pay15, pay16, pay17, pay18, pay19]
  constructor
  · rintro ⟨⟨⟨⟨⟨⟨⟨⟨h, h0⟩, h1⟩, h2⟩, h3⟩, h4⟩, h5⟩, h6⟩, h7⟩
    refine ⟨h, fun k s p => ?_⟩
    fin_cases k <;> fin_cases p
    exacts [(h0 s).1, (h0 s).2, (h1 s).1, (h1 s).2, (h2 s).1, (h2 s).2, (h3 s).1, (h3 s).2,
      (h4 s).1, (h4 s).2, (h5 s).1, (h5 s).2, (h6 s).1, (h6 s).2, (h7 s).1, (h7 s).2]
  · rintro ⟨h, H⟩
    exact ⟨⟨⟨⟨⟨⟨⟨⟨h, fun s => ⟨H 0 s 0, H 0 s 1⟩⟩, fun s => ⟨H 1 s 0, H 1 s 1⟩⟩, fun s => ⟨H 2 s 0, H 2 s 1⟩⟩,
      fun s => ⟨H 3 s 0, H 3 s 1⟩⟩, fun s => ⟨H 4 s 0, H 4 s 1⟩⟩, fun s => ⟨H 5 s 0, H 5 s 1⟩⟩, fun s => ⟨H 6 s 0, H 6 s 1⟩⟩,
      fun s => ⟨H 7 s 0, H 7 s 1⟩⟩

end Cert.Proof.Sub
end
-- ==== Proof.Blocks.lean ====
/-
  The maximum of every block of sixteen channels: what the three merge stages leave in a lane.
-/
module

public import proofs.«01_k».proof.Proof.Sub

@[expose] public section
set_option maxRecDepth 16384
noncomputable section
open Idealize.ShloMosaic Idealize.ShloMosaic.TcCoe Idealize.SL.Sem

namespace Cert.Proof.Blocks
open Cert.KernelIdeal Cert.KernelIdeal.Gen Cert.Proof.Lanes Cert.Proof.Rotate Cert.Proof.Sub

/-- Lane `16 h + g`. -/
abbrev lane (h : Fin 8) (g : Fin 16) : Fin 128 := ⟨16 * h.val + g.val, by omega⟩

/-- One seat back, among eight. -/
theorem sub1 : ∀ h : Fin 8, ((h - 1 : Fin 8)).val = (h.val + 8 - 1) % 8 := by decide
theorem sub2 : ∀ h : Fin 8, ((h - 2 : Fin 8)).val = (h.val + 8 - 2) % 8 := by decide
theorem sub4 : ∀ h : Fin 8, ((h - 4 : Fin 8)).val = (h.val + 8 - 4) % 8 := by decide

/-- The mask of stage 0: the lanes whose number has bit 4 clear. -/
theorem mask0 (r : Fin 64) (l : Fin 128) :
    cmpi .eq (andi (shrsi k1_pay29 (broadcast S64x128 0#32)) (broadcast S64x128 1#32)) (broadcast S64x128 0#32) (ix2 r l)
      = BitVec.ofBool (decide (l.val / 16 % 2 = 0)) := by
  pointwise [k1_pay29]
  clear r
  revert l
  decide +kernel

/-- Stage 0 at a lane: one of the two arrays, at the lane and at the lane 16 below it. -/
theorem stage0 (a b : FVec Ideal S64x128 .f32) (r : Fin 64) (h : Fin 8) (g : Fin 16) :
    (stage 0#32 16#32 a b (ix2 r (lane h g)) : EReal)
      = if h.val % 2 = 0 then max (a (ix2 r (lane h g))) (a (ix2 r (lane (h - 1) g)))
        else max (b (ix2 r (lane h g))) (b (ix2 r (lane (h - 1) g))) := by
  unfold stage
  have hm := mask0 r
  generalize cmpi .eq (andi (shrsi k1_pay29 (broadcast S64x128 0#32)) (broadcast S64x128 1#32)) (broadcast S64x128 0#32) = m at hm ⊢
  have hp : ∀ hh, (⟨(16 * h.val + g.val + 128 - 16) % 128, hh⟩ : Fin 128) = lane (h - 1) g := by
    intro hh; apply Fin.ext
    have : ((h - 1 : Fin 8)).val = (h.val + 8 - 1) % 8 := sub1 h
    show _ = 16 * ((h - 1 : Fin 8)).val + g.val
    rw [this]; show (16 * h.val + g.val + 128 - 16) % 128 = _; omega
  pointwise
  rw [hp, hm, hm]
  have e1 : (lane h g).val / 16 % 2 = h.val % 2 := by show (16 * h.val + g.val) / 16 % 2 = _; omega
  have e2 : (lane (h - 1) g).val / 16 % 2 = 1 - h.val % 2 := by
    have : ((h - 1 : Fin 8)).val = (h.val + 8 - 1) % 8 := sub1 h
    show (16 * ((h - 1 : Fin 8)).val + g.val) / 16 % 2 = _
    rw [this]; omega
  rw [e1, e2]
  rcases Nat.mod_two_eq_zero_or_one h.val with e | e <;> rw [e] <;> rfl

/-- The mask of stage 1: the lanes whose number has bit 5 clear. -/
theorem mask1 (r : Fin 64) (l : Fin 128) :
    cmpi .eq (andi (shrsi k1_pay29 (broadcast S64x128 1#32)) (broadcast S64x128 1#32)) (broadcast S64x128 0#32) (ix2 r l)
      = BitVec.ofBool (decide (l.val / 32 % 2 = 0)) := by
  pointwise [k1_pay29]
  clear r
  revert l
  decide +kernel

/-- Stage 1 at a lane: one of the two arrays, at the lane and at the lane 32 below it. -/
theorem stage1 (a b : FVec Ideal S64x128 .f32) (r : Fin 64) (h : Fin 8) (g : Fin 16) :
    (stage 1#32 32#32 a b (ix2 r (lane h g)) : EReal)
      = if h.val / 2 % 2 = 0 then max (a (ix2 r (lane h g))) (a (ix2 r (lane (h - 2) g)))
        else max (b (ix2 r (lane h g))) (b (ix2 r (lane (h - 2) g))) := by
  unfold stage
  have hm := mask1 r
  generalize cmpi .eq (andi (shrsi k1_pay29 (broadcast S64x128 1#32)) (broadcast S64x128 1#32)) (broadcast S64x128 0#32) = m at hm ⊢
  have hp : ∀ hh, (⟨(16 * h.val + g.val + 128 - 32) % 128, hh⟩ : Fin 128) = lane (h - 2) g := by
    intro hh; apply Fin.ext
    have : ((h - 2 : Fin 8)).val = (h.val + 8 - 2) % 8 := sub2 h
    show _ = 16 * ((h - 2 : Fin 8)).val + g.val
    rw [this]; show (16 * h.val + g.val + 128 - 32) % 128 = _; omega
  pointwise
  rw [hp, hm, hm]
  have e1 : (lane h g).val / 32 % 2 = h.val / 2 % 2 := by show (16 * h.val + g.val) / 32 % 2 = _; omega
  have e2 : (lane (h - 2) g).val / 32 % 2 = 1 - h.val / 2 % 2 := by
    have : ((h - 2 : Fin 8)).val = (h.val + 8 - 2) % 8 := sub2 h
    show (16 * ((h - 2 : Fin 8)).val + g.val) / 32 % 2 = _
    rw [this]; omega
  rw [e1, e2]
  rcases Nat.mod_two_eq_zero_or_one (h.val / 2) with e | e <;> rw [e] <;> rfl

/-- The mask of stage 2: the lanes whose number has bit 6 clear. -/
theorem mask2 (r : Fin 64) (l : Fin 128) :
    cmpi .eq (andi (shrsi k1_pay29 (broadcast S64x128 2#32)) (broadcast S64x128 1#32)) (broadcast S64x128 0#32) (ix2 r l)
      = BitVec.ofBool (decide (l.val / 64 % 2 = 0)) := by
  pointwise [k1_pay29]
  clear r
  revert l
  decide +kernel

/-- Stage 2 at a lane: one of the two arrays, at the lane and at the lane 64 below it. -/
theorem stage2 (a b : FVec Ideal S64x128 .f32) (r : Fin 64) (h : Fin 8) (g : Fin 16) :
    (stage 2#32 64#32 a b (ix2 r (lane h g)) : EReal)
      = if h.val / 4 % 2 = 0 then max (a (ix2 r (lane h g))) (a (ix2 r (lane (h - 4) g)))
        else max (b (ix2 r (lane h g))) (b (ix2 r (lane (h - 4) g))) := by
  unfold stage
  have hm := mask2 r
  generalize cmpi .eq (andi (shrsi k1_pay29 (broadcast S64x128 2#32)) (broadcast S64x128 1#32)) (broadcast S64x128 0#32) = m at hm ⊢
  have hp : ∀ hh, (⟨(16 * h.val + g.val + 128 - 64) % 128, hh⟩ : Fin 128) = lane (h - 4) g := by
    intro hh; apply Fin.ext
    have : ((h - 4 : Fin 8)).val = (h.val + 8 - 4) % 8 := sub4 h
    show _ = 16 * ((h - 4 : Fin 8)).val + g.val
    rw [this]; show (16 * h.val + g.val + 128 - 64) % 128 = _; omega
  pointwise
  rw [hp, hm, hm]
  have e1 : (lane h g).val / 64 % 2 = h.val / 4 % 2 := by show (16 * h.val + g.val) / 64 % 2 = _; omega
  have e2 : (lane (h - 4) g).val / 64 % 2 = 1 - h.val / 4 % 2 := by
    have : ((h - 4 : Fin 8)).val = (h.val + 8 - 4) % 8 := sub4 h
    show (16 * ((h - 4 : Fin 8)).val + g.val) / 64 % 2 = _
    rw [this]; omega
  rw [e1, e2]
  rcases Nat.mod_two_eq_zero_or_one (h.val / 4) with e | e <;> rw [e] <;> rfl

/-- The three stages over any eight arrays: lane `16 h + g` of the result is below a bound exactly
    when array `h` is in the eight lanes `16 j + g`. -/
theorem merge_le (A : Fin 8 → FVec Ideal S64x128 .f32) (r : Fin 64) (h : Fin 8) (g : Fin 16) (B : EReal) :
    (stage 2#32 64#32
      (stage 1#32 32#32 (stage 0#32 16#32 (A 0) (A 1)) (stage 0#32 16#32 (A 2) (A 3)))
      (stage 1#32 32#32 (stage 0#32 16#32 (A 4) (A 5)) (stage 0#32 16#32 (A 6) (A 7))) (ix2 r (lane h g)) : EReal) ≤ B
      ↔ ∀ j : Fin 8, (A h (ix2 r (lane j g)) : EReal) ≤ B := by
  simp only [stage2, stage1, stage0]
  have hA : ∀ P : Fin 8 → Prop, (∀ j, P j) ↔ (P 0 ∧ P 1 ∧ P 2 ∧ P 3 ∧ P 4 ∧ P 5 ∧ P 6 ∧ P 7) := by
    intro P
    simp only [Fin.forall_fin_succ, IsEmpty.forall_iff, and_true]
    rfl
  rw [hA]
  generalize hf : (fun (k h : Fin 8) => (A k (ix2 r (lane h g)) : EReal)) = f
  have hf' : ∀ k h, (A k (ix2 r (lane h g)) : EReal) = f k h := fun k h => by rw [← hf]
  simp only [hf']
  clear hf hf' hA
  match h with
  | 0 =>
    show max (max (max (f 0 0) (f 0 7)) (max (f 0 6) (f 0 5))) (max (max (f 0 4) (f 0 3)) (max (f 0 2) (f 0 1))) ≤ B ↔ _
    simp only [max_le_iff]; tauto
  | 1 =>
    show max (max (max (f 1 1) (f 1 0)) (max (f 1 7) (f 1 6))) (max (max (f 1 5) (f 1 4)) (max (f 1 3) (f 1 2))) ≤ B ↔ _
    simp only [max_le_iff]; tauto
  | 2 =>
    show max (max (max (f 2 2) (f 2 1)) (max (f 2 0) (f 2 7))) (max (max (f 2 6) (f 2 5)) (max (f 2 4) (f 2 3))) ≤ B ↔ _
    simp only [max_le_iff]; tauto
  | 3 =>
    show max (max (max (f 3 3) (f 3 2)) (max (f 3 1) (f 3 0))) (max (max (f 3 7) (f 3 6)) (max (f 3 5) (f 3 4))) ≤ B ↔ _
    simp only [max_le_iff]; tauto
  | 4 =>
    show max (max (max (f 4 4) (f 4 3)) (max (f 4 2) (f 4 1))) (max (max (f 4 0) (f 4 7)) (max (f 4 6) (f 4 5))) ≤ B ↔ _
    simp only [max_le_iff]; tauto
  | 5 =>
    show max (max (max (f 5 5) (f 5 4)) (max (f 5 3) (f 5 2))) (max (max (f 5 1) (f 5 0)) (max (f 5 7) (f 5 6))) ≤ B ↔ _
    simp only [max_le_iff]; tauto
  | 6 =>
    show max (max (max (f 6 6) (f 6 5)) (max (f 6 4) (f 6 3))) (max (max (f 6 2) (f 6 1)) (max (f 6 0) (f 6 7))) ≤ B ↔ _
    simp only [max_le_iff]; tauto
  | 7 =>
    show max (max (max (f 7 7) (f 7 6)) (max (f 7 5) (f 7 4))) (max (max (f 7 3) (f 7 2)) (max (f 7 1) (f 7 0))) ≤ B ↔ _
    simp only [max_le_iff]; tauto

/-- One channel group's lanes are below a bound exactly when the lane's two rotated channels are. -/
theorem magK (X : FVec Ideal S64x2048 .bf16) (r : Fin 64) (h : Fin 8) (g : Fin 16) (B : EReal) (a b : FVec Ideal S64x128 .f32) (k : ℕ)
    (ha : ∀ l : Fin 128, (a (ix2 r l) : EReal) = rot (chans X r) (k + l.val % 16) (2 * (l.val / 16) + 0))
    (hb : ∀ l : Fin 128, (b (ix2 r l) : EReal) = rot (chans X r) (k + l.val % 16) (2 * (l.val / 16) + 1)) :
    (mag a b (ix2 r (lane h g)) : EReal) ≤ B ↔
      abv (rot (chans X r) (k + g.val) (2 * h.val + 0)) ≤ B ∧ abv (rot (chans X r) (k + g.val) (2 * h.val + 1)) ≤ B := by
  rw [mag_le, ha, hb]
  have e1 : (lane h g).val % 16 = g.val := by show (16 * h.val + g.val) % 16 = _; omega
  have e2 : (lane h g).val / 16 = h.val := by show (16 * h.val + g.val) / 16 = _; omega
  rw [e1, e2]

/-- The block maximum in lane `l` is below a bound exactly when the sixteen rotated channels of
    block `l` are. -/
theorem blockMax_le (X : FVec Ideal S64x2048 .bf16) (r : Fin 64) (l : Fin 128) (B : EReal) :
    (blockMax (F := Ideal) X weights (ix2 r l) : EReal) ≤ B ↔ ∀ o : Fin 16, abv (rot (chans X r) l.val o.val) ≤ B := by
  obtain ⟨h, g, rfl⟩ : ∃ (h : Fin 8) (g : Fin 16), l = lane h g :=
    ⟨⟨l.val / 16, by omega⟩, ⟨l.val % 16, by omega⟩, Fin.ext (by show l.val = 16 * (l.val / 16) + l.val % 16; omega)⟩
  have fin16 : (∀ o : Fin 16, abv (rot (chans X r) (lane h g).val o.val) ≤ B) ↔ ∀ j : Fin 8,
      abv (rot (chans X r) (16 * h.val + g.val) (2 * j.val + 0)) ≤ B ∧ abv (rot (chans X r) (16 * h.val + g.val) (2 * j.val + 1)) ≤ B := by
    constructor
    · intro H j
      exact ⟨H ⟨2 * j.val + 0, by omega⟩, H ⟨2 * j.val + 1, by omega⟩⟩
    · intro H o
      have := H ⟨o.val / 2, by omega⟩
      rcases Nat.mod_two_eq_zero_or_one o.val with e | e
      · have e' : 2 * (o.val / 2) + 0 = o.val := by omega
        have t := this.1; rw [show (2 * (⟨o.val / 2, by omega⟩ : Fin 8).val + 0) = o.val from e'] at t; exact t
      · have e' : 2 * (o.val / 2) + 1 = o.val := by omega
        have t := this.2; rw [show (2 * (⟨o.val / 2, by omega⟩ : Fin 8).val + 1) = o.val from e'] at t; exact t
  rw [fin16]
  have key : ∀ j : Fin 8, (![mag (k1_pay4 (F := Ideal) X weights) (k1_pay5 (F := Ideal) X weights), mag (k1_pay6 (F := Ideal) X weights) (k1_pay7 (F := Ideal) X weights),
      mag (k1_pay8 (F := Ideal) X weights) (k1_pay9 (F := Ideal) X weights), mag (k1_pay10 (F := Ideal) X weights) (k1_pay11 (F := Ideal) X weights),
      mag (k1_pay12 (F := Ideal) X weights) (k1_pay13 (F := Ideal) X weights), mag (k1_pay14 (F := Ideal) X weights) (k1_pay15 (F := Ideal) X weights),
      mag (k1_pay16 (F := Ideal) X weights) (k1_pay17 (F := Ideal) X weights), mag (k1_pay18 (F := Ideal) X weights) (k1_pay19 (F := Ideal) X weights)] h (ix2 r (lane j g)) : EReal) ≤ B ↔
      abv (rot (chans X r) (16 * h.val + g.val) (2 * j.val + 0)) ≤ B ∧ abv (rot (chans X r) (16 * h.val + g.val) (2 * j.val + 1)) ≤ B := by
    intro j
    match h with
    | 0 => exact magK X r j g B _ _ 0 (fun l => pay4 X r l) (fun l => pay5 X r l)
    | 1 => exact magK X r j g B _ _ 16 (fun l => pay6 X r l) (fun l => pay7 X r l)
    | 2 => exact magK X r j g B _ _ 32 (fun l => pay8 X r l) (fun l => pay9 X r l)
    | 3 => exact magK X r j g B _ _ 48 (fun l => pay10 X r l) (fun l => pay11 X r l)
    | 4 => exact magK X r j g B _ _ 64 (fun l => pay12 X r l) (fun l => pay13 X r l)
    | 5 => exact magK X r j g B _ _ 80 (fun l => pay14 X r l) (fun l => pay15 X r l)
    | 6 => exact magK X r j g B _ _ 96 (fun l => pay16 X r l) (fun l => pay17 X r l)
    | 7 => exact magK X r j g B _ _ 112 (fun l => pay18 X r l) (fun l => pay19 X r l)
  refine (merge_le ![mag (k1_pay4 (F := Ideal) X weights) (k1_pay5 (F := Ideal) X weights), mag (k1_pay6 (F := Ideal) X weights) (k1_pay7 (F := Ideal) X weights),
      mag (k1_pay8 (F := Ideal) X weights) (k1_pay9 (F := Ideal) X weights), mag (k1_pay10 (F := Ideal) X weights) (k1_pay11 (F := Ideal) X weights),
      mag (k1_pay12 (F := Ideal) X weights) (k1_pay13 (F := Ideal) X weights), mag (k1_pay14 (F := Ideal) X weights) (k1_pay15 (F := Ideal) X weights),
      mag (k1_pay16 (F := Ideal) X weights) (k1_pay17 (F := Ideal) X weights), mag (k1_pay18 (F := Ideal) X weights) (k1_pay19 (F := Ideal) X weights)] r h g B).trans ?_
  exact forall_congr' key

end Cert.Proof.Blocks
end
-- ==== Proof.Piece.lean ====
/-
  What one store of a trip writes: at row `r`, byte `l`, the two codes of one pair of channels.
-/
module

public import proofs.«01_k».proof.Proof.Bytes
public import proofs.«01_k».proof.Proof.Blocks

@[expose] public section
set_option maxRecDepth 16384
noncomputable section
open Idealize.ShloMosaic Idealize.ShloMosaic.TcCoe Idealize.SL.Sem

namespace Cert.Proof.Piece
open Cert.KernelIdeal Cert.KernelIdeal.Gen Cert.Proof.Lanes Cert.Proof.Code Cert.Proof.Bytes Cert.Proof.Rotate

/-- A value clipped to [-6, 6], as a real number. -/
def clipR (x : EReal) : ℝ := (min ((6 : ℝ) : EReal) (max ((-6 : ℝ) : EReal) x)).toReal

/-- A clipped value is a real number. -/
theorem clipR_coe (x : EReal) : min ((6 : ℝ) : EReal) (max ((-6 : ℝ) : EReal) x) = (clipR x : EReal) := by
  obtain ⟨r, _, h⟩ := clip_real x
  unfold clipR
  rw [h, EReal.toReal_coe]

/-- Its magnitude is at most 6. -/
theorem clipR_abs (x : EReal) : |clipR x| ≤ 6 := by
  obtain ⟨r, h', h⟩ := clip_real x
  unfold clipR
  rw [h, EReal.toReal_coe]
  exact h'

/-- The magnitude of a real number, among the extended reals. -/
theorem absf_coe (r : ℝ) : (FloatOps.absf (F := Ideal) (φ := .f32) ((r : EReal) : Ideal .f32) : EReal) = ((|r| : ℝ) : EReal) := by
  show max (r : EReal) (-(r : EReal)) = _
  rw [← EReal.coe_neg, abs_eq_max_neg]
  exact (EReal.coe_strictMono.monotone.map_max).symm

/-- Eight small numbers added as words and cut to a byte. -/
theorem sum_word (s a b c d e f g : ℕ) :
    BitVec.setWidth 8 (IntOp.addi (IntOp.addi (IntOp.addi (IntOp.addi (IntOp.addi (IntOp.addi (IntOp.addi
      (BitVec.ofNat 32 s) (BitVec.ofNat 32 a)) (BitVec.ofNat 32 b)) (BitVec.ofNat 32 c)) (BitVec.ofNat 32 d)) (BitVec.ofNat 32 e))
      (BitVec.ofNat 32 f)) (BitVec.ofNat 32 g)) = BitVec.ofNat 8 (s + (a + b + c + d + e + f + g)) := by
  simp only [IntOp.addi, ← BitVec.ofNat_add]
  apply BitVec.eq_of_toNat_eq
  simp only [BitVec.toNat_setWidth, BitVec.toNat_ofNat]
  omega

/-- The code of a lane whose clipped value is the real number `t`. -/
theorem codes_real (x : FVec Ideal S64x128 .f32) (r : Fin 64) (l : Fin 128) (t : ℝ) (h : (x (ix2 r l) : EReal) = (t : EReal)) :
    codes x (ix2 r l) = BitVec.ofNat 8 (raw t) := by
  pointwise [codes]
  have h0 : (if (x (ix2 r l) : EReal) < 0 then (8#32 : BitVec 32) else 0#32) = BitVec.ofNat 32 (sgn t) := by
    rw [h]
    unfold sgn
    by_cases c : t < 0
    · rw [if_pos c, if_pos (EReal.coe_neg'.2 c)]
    · rw [if_neg c, if_neg (fun d => c (EReal.coe_neg'.1 d))]
  rw [h0, h, absf_coe, lit_quarter, lit_3_4, lit_5_4, lit_7_4, lit_5_2, lit_7_2, lit_5]
  simp only [EReal.coe_lt_coe_iff, EReal.coe_le_coe_iff, bit_eq]
  exact sum_word _ _ _ _ _ _ _ _

/-- The code of a scaled lane. -/
theorem codes_apply (y f : FVec Ideal S64x128 .f32) (r : Fin 64) (l : Fin 128) :
    codes (clipped y f) (ix2 r l) = BitVec.ofNat 8 (raw (clipR ((y (ix2 r l) : EReal) * (f (ix2 r l) : EReal)))) := by
  apply codes_real
  rw [← clipR_coe]
  pointwise [clipped]
  rw [lit_6, lit_neg_6]

/-- The lanes whose factors a group gathers: lane `l` reads the factor of block `16 k + l % 16`. -/
theorem seg_word (k : Fin 8) (r : Fin 64) (l : Fin 128) :
    wrap64 (addi k1_pay140 (broadcast S64x128 (BitVec.ofNat 32 (16 * k.val)))) (ix2 r l) = BitVec.ofNat 32 (16 * k.val + l.val % 16) := by
  pointwise [wrap64, k1_pay140]
  clear r
  revert k l
  decide +kernel

/-- The lane permutation of the packed words. -/
theorem out_word (r : Fin 16) (l : Fin 128) :
    wrap16 (k1_pay1 (iota .tc S16x128 32 [1] iota_S16x128_d1_w32) k1_pay141 8#32 k1_pay142 k1_pay143) (ix2 r l)
      = BitVec.ofNat 32 (16 * (l.val % 8) + l.val / 8) := by
  pointwise [wrap16, k1_pay1, k1_pay141, k1_pay142, k1_pay143]
  clear r
  revert l
  decide +kernel

/-- A gather of factors at a lane. -/
theorem gather_factor (k : Fin 8) (f : FVec Ideal S64x128 .f32) (r : Fin 64) (l : Fin 128) :
    (dynamicGather 1 f (wrap64 (addi k1_pay140 (broadcast S64x128 (BitVec.ofNat 32 (16 * k.val))))) (ix2 r l) : EReal)
      = f (ix2 r ⟨16 * k.val + l.val % 16, by omega⟩) := by
  have h := seg_word k r l
  generalize wrap64 (addi k1_pay140 (broadcast S64x128 (BitVec.ofNat 32 (16 * k.val)))) = w at h ⊢
  pointwise
  congr 2
  apply Fin.ext
  show (w (ix2 r l)).toNat % 128 = _
  rw [h, BitVec.toNat_ofNat]
  show (16 * k.val + l.val % 16) % 2 ^ 32 % 128 = 16 * k.val + l.val % 16
  omega

/-- A gather of packed words at a lane. -/
theorem gather_word (z : IVec S16x128 32) (r : Fin 16) (l : Fin 128) :
    dynamicGather 1 z (wrap16 (k1_pay1 (iota .tc S16x128 32 [1] iota_S16x128_d1_w32) k1_pay141 8#32 k1_pay142 k1_pay143)) (ix2 r l)
      = z (ix2 r ⟨16 * (l.val % 8) + l.val / 8, by omega⟩) := by
  have h := out_word r l
  generalize wrap16 (k1_pay1 (iota .tc S16x128 32 [1] iota_S16x128_d1_w32) k1_pay141 8#32 k1_pay142 k1_pay143) = w at h ⊢
  pointwise
  congr 2
  apply Fin.ext
  show (w (ix2 r l)).toNat % 128 = _
  rw [h, BitVec.toNat_ofNat]
  show (16 * (l.val % 8) + l.val / 8) % 2 ^ 32 % 128 = 16 * (l.val % 8) + l.val / 8
  omega

/-- The byte of a pair of channels with rotated values `y0`, `y1` and factor `f`. -/
def pairByte (y0 y1 f : EReal) : BitVec 8 := BitVec.ofNat 8 (code (clipR (y0 * f)) + 16 * code (clipR (y1 * f)))

/-- What group `k` writes at row `r`, byte `l`. -/
theorem piece_apply (k : Fin 8) (f a b : FVec Ideal S64x128 .f32) (r : Fin 64) (l : Fin 128) :
    Lanes.piece (BitVec.ofNat 32 (16 * k.val)) k1_pay140
        (k1_pay1 (iota .tc S16x128 32 [1] iota_S16x128_d1_w32) k1_pay141 8#32 k1_pay142 k1_pay143) f a b (ix2 r l)
      = pairByte (a (ix2 r ⟨16 * (l.val % 8) + l.val / 8, by omega⟩)) (b (ix2 r ⟨16 * (l.val % 8) + l.val / 8, by omega⟩))
          (f (ix2 r ⟨16 * k.val + l.val / 8, by omega⟩)) := by
  unfold Lanes.piece
  rw [unpacked_byte, gather_word]
  set o : Fin 128 := ⟨16 * (l.val % 8) + l.val / 8, by omega⟩ with ho
  set g := dynamicGather 1 f (wrap64 (addi k1_pay140 (broadcast S64x128 (BitVec.ofNat 32 (16 * k.val))))) with hg
  set q : Fin 16 := ⟨r.val / 4, by omega⟩ with hq
  have row : ∀ e, e < 4 → 4 * q.val + e < 64 := fun e he => by omega
  have hb := byte_cleared (packed (clipped a g) (ix2 q o)) (packed (clipped b g) (ix2 q o))
    (fun e => if he : e < 4 then raw (clipR ((a (ix2 ⟨4 * q.val + e, row e he⟩ o) : EReal) * (g (ix2 ⟨4 * q.val + e, row e he⟩ o) : EReal))) else 0)
    (fun e => if he : e < 4 then raw (clipR ((b (ix2 ⟨4 * q.val + e, row e he⟩ o) : EReal) * (g (ix2 ⟨4 * q.val + e, row e he⟩ o) : EReal))) else 0)
    (fun e he => by rw [dif_pos he]; exact raw_lt _)
    (fun e he => by rw [dif_pos he]; exact raw_lt _)
    (fun e he => by rw [dif_pos he, packed_byte _ q o e he, codes_apply])
    (fun e he => by rw [dif_pos he, packed_byte _ q o e he, codes_apply])
    (r.val % 4) (by omega)
  have hr : ∀ hh, (⟨4 * q.val + r.val % 4, hh⟩ : Fin 64) = r := fun hh => Fin.ext (by show 4 * (r.val / 4) + r.val % 4 = r.val; omega)
  refine Eq.trans ?_ (hb.trans ?_)
  · rfl
  · skip
    rw [dif_pos (by omega : r.val % 4 < 4), dif_pos (by omega : r.val % 4 < 4), hr, code_eq _ (clipR_abs _), code_eq _ (clipR_abs _),
      hg, gather_factor]
    unfold pairByte
    have e : ∀ hh, (⟨16 * k.val + o.val % 16, hh⟩ : Fin 128) = ⟨16 * k.val + l.val / 8, by omega⟩ := by
      intro hh; apply Fin.ext
      show 16 * k.val + (16 * (l.val % 8) + l.val / 8) % 16 = _
      have : (16 * (l.val % 8) + l.val / 8) % 16 = l.val / 8 := by omega
      rw [this]
    rw [e]

end Cert.Proof.Piece
end
-- ==== Proof.Body.lean ====
/-
  What the quantising kernel's body leaves in its two output blocks, at every index: the scale of
  every block of sixteen channels, and the byte of every pair of channels.
-/
module

public import proofs.«01_k».proof.Proof.Piece

@[expose] public section
set_option maxRecDepth 16384
noncomputable section
open Idealize.ShloMosaic Idealize.ShloMosaic.TcCoe Idealize.SL.Sem

namespace Cert.Proof.Body
open Cert.KernelIdeal Cert.KernelIdeal.Gen Cert.Proof.Lanes Cert.Proof.Rotate Cert.Proof.Sub Cert.Proof.Blocks Cert.Proof.Piece

/-- The greatest magnitude in block `b` of a rotated row. -/
def bmax (x : ℕ → EReal) (b : ℕ) : EReal := Finset.univ.sup fun o : Fin 16 => abv (rot x b o.val)

/-- The scale of block `b`, given the global scale `s`. -/
def scl (s : EReal) (x : ℕ → EReal) (b : ℕ) : EReal :=
  min (Ideal.div (bmax x b) (Ideal.ofBits .f32 0x40C00000#32 * s)) (Ideal.ofBits .f32 0x43E00000#32)

/-- The factor of a block with scale `q`. -/
def inv (s q : EReal) : EReal := Ideal.div 1 (if q * s = 0 then 1 else q * s)

/-- Byte `n` of a packed row: pair `n % 8` of block `n / 8`. -/
def byte (s : EReal) (x : ℕ → EReal) (n : ℕ) : BitVec 8 :=
  pairByte (rot x (n / 8) (2 * (n % 8))) (rot x (n / 8) (2 * (n % 8) + 1)) (inv s (scl s x (n / 8)))

/-- A row of a 512-row block. -/
def chans512 (X : FVec Ideal S512x2048 .bf16) (r : ℕ) : ℕ → EReal :=
  fun n => if h : r < 512 ∧ n < 2048 then X (ix2 ⟨r, h.1⟩ ⟨n, h.2⟩) else 0

/-- The block maxima of 64 rows. -/
theorem blockMax_apply (X : FVec Ideal S64x2048 .bf16) (r : Fin 64) (l : Fin 128) :
    (blockMax (F := Ideal) X weights (ix2 r l) : EReal) = bmax (chans X r) l.val := by
  refine eq_of_forall_ge_iff fun B => (blockMax_le X r l B).trans ?_
  unfold bmax
  rw [Finset.sup_le_iff]
  exact ⟨fun h o _ => h o, fun h o => h o (Finset.mem_univ _)⟩

/-- The scales of 64 rows. -/
theorem scale_apply (s : EReal) (X : FVec Ideal S64x2048 .bf16) (r : Fin 64) (l : Fin 128) :
    (scale (F := Ideal) s (blockMax X weights) (ix2 r l) : EReal) = scl s (chans X r) l.val := by
  have h := blockMax_apply X r l
  generalize blockMax (F := Ideal) X weights = m at h
  pointwise [scale]
  unfold scl
  rw [← h]

/-- The factors of 64 rows. -/
theorem factor_apply (s : EReal) (X : FVec Ideal S64x2048 .bf16) (r : Fin 64) (l : Fin 128) :
    (factor (F := Ideal) s (scale s (blockMax X weights)) (ix2 r l) : EReal) = inv s (scl s (chans X r) l.val) := by
  have h := scale_apply s X r l
  generalize scale (F := Ideal) s (blockMax X weights) = m at h
  pointwise [factor]
  unfold inv
  rw [← h]

/-- The loop makes eight trips. -/
theorem trips_eq : k1_t1_loop.trips = 8 := by decide +kernel

/-- A trip's loads and stores begin at row 64 k; the stores of the packed bytes take a group of 128 columns each. -/
theorem off1 : ∀ k : Fin k1_t1_loop.trips, k1_off1 k = ![64 * k.val, 0] := by decide +kernel
theorem off2 : ∀ k : Fin k1_t1_loop.trips, k1_off2 k = ![64 * k.val, 0] := by decide +kernel
theorem off3 : ∀ k : Fin k1_t1_loop.trips, k1_off3 k = ![64 * k.val, 0] := by decide +kernel
theorem off4 : ∀ k : Fin k1_t1_loop.trips, k1_off4 k = ![64 * k.val, 128] := by decide +kernel
theorem off5 : ∀ k : Fin k1_t1_loop.trips, k1_off5 k = ![64 * k.val, 256] := by decide +kernel
theorem off6 : ∀ k : Fin k1_t1_loop.trips, k1_off6 k = ![64 * k.val, 384] := by decide +kernel
theorem off7 : ∀ k : Fin k1_t1_loop.trips, k1_off7 k = ![64 * k.val, 512] := by decide +kernel
theorem off8 : ∀ k : Fin k1_t1_loop.trips, k1_off8 k = ![64 * k.val, 640] := by decide +kernel
theorem off9 : ∀ k : Fin k1_t1_loop.trips, k1_off9 k = ![64 * k.val, 768] := by decide +kernel
theorem off10 : ∀ k : Fin k1_t1_loop.trips, k1_off10 k = ![64 * k.val, 896] := by decide +kernel

/-- The rows a trip loads, row by row. -/
theorem rows_chans (arg2 : Memref sig .tc .vmem S512x2048 .bf16) (harg2 : arg2.IsWhole) (x1 : FVec Ideal S512x2048 .bf16)
    (k : Fin k1_t1_loop.trips) (r : Fin 64) :
    chans (rows (F := Ideal) arg2 (harg2.unread x1) k) r = chans512 x1 (64 * k.val + r.val) := by
  have hk : k.val < 8 := Nat.lt_of_lt_of_le k.isLt trips_eq.le
  funext n
  unfold chans chans512
  by_cases hn : n < 2048
  · have hr : 64 * k.val + r.val < 512 := by omega
    rw [dif_pos hn, dif_pos ⟨hr, hn⟩]
    show View.ld (arg2.view.read (Elt Ideal) (harg2.unread x1)) _ _ = _
    rw [harg2.read_unread]
    refine View.ld_unit_apply_of (Val := Elt Ideal) (e := .bf16) x1 _ _ _ _ _ fun a => ?_
    match a with
    | ⟨0, _⟩ => exact (congrArg (· + r.val) (congrFun (off1 k) 0)).symm
    | ⟨1, _⟩ => exact ((congrArg (· + n) (congrFun (off1 k) 1)).trans (Nat.zero_add n)).symm
  · rw [dif_neg hn, dif_neg (fun h => hn h.2)]

/-- The weights a trip loads. -/
theorem wts_eq (arg3 : Memref sig .tc .vmem S256x256 .bf16) (harg3 : arg3.IsWhole) (x2 : FVec Ideal S256x256 .bf16) :
    wts (F := Ideal) arg3 (harg3.unread x2) = x2 := by
  show View.ld (arg3.view.read (Elt Ideal) (harg3.unread x2)) _ = _
  rw [harg3.read_unread]
  refine View.ld_unit_zero ?_ _ _
  funext a
  match a with
  | ⟨0, _⟩ => rfl
  | ⟨1, _⟩ => rfl

/-- One group's store, against the target. -/
theorem group_piece (s : EReal) (x1 : FVec Ideal S512x2048 .bf16) (arg2 : Memref sig .tc .vmem S512x2048 .bf16) (harg2 : arg2.IsWhole)
    (k : Fin k1_t1_loop.trips) (kk : Fin 8) (w : BitVec 32) (hw : w = BitVec.ofNat 32 (16 * kk.val)) (a b : FVec Ideal S64x128 .f32)
    (ha : ∀ r l, (a (ix2 r l) : EReal) = rot (chans (rows (F := Ideal) arg2 (harg2.unread x1) k) r) (16 * kk.val + l.val % 16) (2 * (l.val / 16) + 0))
    (hb : ∀ r l, (b (ix2 r l) : EReal) = rot (chans (rows (F := Ideal) arg2 (harg2.unread x1) k) r) (16 * kk.val + l.val % 16) (2 * (l.val / 16) + 1))
    (off : Fin 2 → ℕ) (hoff : off = ![64 * k.val, 128 * kk.val]) (inb) (x : S64x128.Idx) :
    Lanes.piece w k1_pay140 (k1_pay1 (iota .tc S16x128 32 [1] iota_S16x128_d1_w32) k1_pay141 8#32 k1_pay142 k1_pay143)
        (factor (F := Ideal) s (scale s (blockMax (rows arg2 (harg2.unread x1) k) weights))) a b x
      = byte s (chans512 x1 (((Rect.unit (s := S512x1024) off ![64, 128] inb).emb x) 0).val) (((Rect.unit (s := S512x1024) off ![64, 128] inb).emb x) 1).val := by
  subst hw
  obtain ⟨r, l, rfl⟩ : ∃ (r : Fin 64) (l : Fin 128), x = ix2 r l := ⟨x 0, x 1, by funext a; match a with | ⟨0, _⟩ => rfl | ⟨1, _⟩ => rfl⟩
  rw [piece_apply, ha, hb, factor_apply, rows_chans]
  have e0 : (((Rect.unit (s := S512x1024) off ![64, 128] inb).emb (ix2 r l)) 0).val = 64 * k.val + r.val := by
    refine (Rect.idx_unit_val _ _ _ _ 0).trans ?_; exact congrArg (· + r.val) (congrFun hoff 0)
  have e1 : (((Rect.unit (s := S512x1024) off ![64, 128] inb).emb (ix2 r l)) 1).val = 128 * kk.val + l.val := by
    refine (Rect.idx_unit_val _ _ _ _ 1).trans ?_; exact congrArg (· + l.val) (congrFun hoff 1)
  rw [e0, e1]
  unfold byte
  have q1 : (16 * (l.val % 8) + l.val / 8) % 16 = l.val / 8 := by omega
  have q2 : (16 * (l.val % 8) + l.val / 8) / 16 = l.val % 8 := by omega
  have q3 : (128 * kk.val + l.val) / 8 = 16 * kk.val + l.val / 8 := by omega
  have q4 : (128 * kk.val + l.val) % 8 = l.val % 8 := by omega
  dsimp only
  rw [q1, q2, q3, q4]
  rfl

section
variable (c : Dev nD) (i : grid1.Coords) (arg1 : Memref sig .tc .smem S1x1 .f32) (harg1 : arg1.IsWhole) (arg2 : Memref sig .tc .vmem S512x2048 .bf16) (harg2 : arg2.IsWhole) (arg3 : Memref sig .tc .vmem S256x256 .bf16) (harg3 : arg3.IsWhole) (arg4 : Memref sig .tc .vmem S512x1024 .i8) (harg4 : arg4.IsWhole) (arg5 : Memref sig .tc .vmem S512x128 .fp8e4m3) (harg5 : arg5.IsWhole)

/-- The pieces of the trips before `n`. -/
abbrev pieces (s : EReal) (x1 : FVec Ideal S512x2048 .bf16) (n : ℕ) :=
  pb_k1_t1 (F := Ideal) Variants.none c none i arg1 harg1 arg2 harg2 arg3 harg3 arg4 harg4 arg5 harg5 s k1_pay140
    (iota .tc S16x128 32 [1] iota_S16x128_d1_w32) k1_pay141 8#32 k1_pay142 k1_pay143 (harg2.unread x1) (harg3.unread weights) n

/-- Every piece of the packed block agrees with the target. -/
theorem pieces_codes (s : EReal) (x1 : FVec Ideal S512x2048 .bf16) (n : ℕ) (hn : n ≤ k1_t1_loop.trips) :
    ∀ p ∈ (pieces c i arg1 harg1 arg2 harg2 arg3 harg3 arg4 harg4 arg5 harg5 s x1 n).1, ∀ x : p.1.shape.Idx,
      p.2 x = byte s (chans512 x1 ((p.1.emb x) 0).val) ((p.1.emb x) 1).val := by
  induction n with
  | zero => intro p hp; exact absurd hp List.not_mem_nil
  | succ n ih =>
    intro p hp x
    rw [pieces, pb_k1_t1_succ (k := ⟨n, hn⟩)] at hp
    rcases List.mem_append.1 hp with hp | hp
    · rw [trip_codes] at hp
      simp only [List.mem_cons, List.not_mem_nil, or_false] at hp
      have hw := wts_eq arg3 harg3 weights
      rcases hp with rfl | rfl | rfl | rfl | rfl | rfl | rfl | rfl
      · dsimp only at x ⊢
        rw [fac, hw]
        exact group_piece s x1 arg2 harg2 ⟨n, hn⟩ 7 _ rfl _ _ (fun r l => pay18 _ r l) (fun r l => pay19 _ r l) _ (off10 _) _ x
      · dsimp only at x ⊢
        rw [fac, hw]
        exact group_piece s x1 arg2 harg2 ⟨n, hn⟩ 6 _ rfl _ _ (fun r l => pay16 _ r l) (fun r l => pay17 _ r l) _ (off9 _) _ x
      · dsimp only at x ⊢
        rw [fac, hw]
        exact group_piece s x1 arg2 harg2 ⟨n, hn⟩ 5 _ rfl _ _ (fun r l => pay14 _ r l) (fun r l => pay15 _ r l) _ (off8 _) _ x
      · dsimp only at x ⊢
        rw [fac, hw]
        exact group_piece s x1 arg2 harg2 ⟨n, hn⟩ 4 _ rfl _ _ (fun r l => pay12 _ r l) (fun r l => pay13 _ r l) _ (off7 _) _ x
      · dsimp only at x ⊢
        rw [fac, hw]
        exact group_piece s x1 arg2 harg2 ⟨n, hn⟩ 3 _ rfl _ _ (fun r l => pay10 _ r l) (fun r l => pay11 _ r l) _ (off6 _) _ x
      · dsimp only at x ⊢
        rw [fac, hw]
        exact group_piece s x1 arg2 harg2 ⟨n, hn⟩ 2 _ rfl _ _ (fun r l => pay8 _ r l) (fun r l => pay9 _ r l) _ (off5 _) _ x
      · dsimp only at x ⊢
        rw [fac, hw]
        exact group_piece s x1 arg2 harg2 ⟨n, hn⟩ 1 _ rfl _ _ (fun r l => pay6 _ r l) (fun r l => pay7 _ r l) _ (off4 _) _ x
      · dsimp only at x ⊢
        rw [fac, hw]
        exact group_piece s x1 arg2 harg2 ⟨n, hn⟩ 0 _ rfl _ _ (fun r l => pay4 _ r l) (fun r l => pay5 _ r l) _ (off3 _) _ x
    · exact ih (Nat.le_of_succ_le hn) p hp x

/-- Where a store into the scales' block puts its entries. -/
theorem place (p : ℕ) (off : Fin 2 → ℕ) (hoff : off = ![p, 0]) (inb) (r : Fin 64) (l : Fin 128) :
    (((Rect.unit (s := S512x128) off ![64, 128] inb).emb (ix2 r l)) 0).val = p + r.val ∧
    (((Rect.unit (s := S512x128) off ![64, 128] inb).emb (ix2 r l)) 1).val = l.val := by
  constructor
  · refine (Rect.idx_unit_val _ _ _ _ 0).trans ?_; exact congrArg (· + r.val) (congrFun hoff 0)
  · refine (Rect.idx_unit_val _ _ _ _ 1).trans ?_; exact (congrArg (· + l.val) (congrFun hoff 1)).trans (Nat.zero_add _)

/-- Every piece of the scales' block agrees with the target. -/
theorem pieces_scales (s : EReal) (x1 : FVec Ideal S512x2048 .bf16) (n : ℕ) (hn : n ≤ k1_t1_loop.trips) :
    ∀ p ∈ (pieces c i arg1 harg1 arg2 harg2 arg3 harg3 arg4 harg4 arg5 harg5 s x1 n).2, ∀ x : p.1.shape.Idx,
      (p.2 x : EReal) = scl s (chans512 x1 ((p.1.emb x) 0).val) ((p.1.emb x) 1).val := by
  induction n with
  | zero => intro p hp; exact absurd hp List.not_mem_nil
  | succ n ih =>
    intro p hp x
    rw [pieces, pb_k1_t1_succ (k := ⟨n, hn⟩)] at hp
    rcases List.mem_append.1 hp with hp | hp
    · rw [trip_scales] at hp
      simp only [List.mem_cons, List.not_mem_nil, or_false] at hp
      have hw := wts_eq arg3 harg3 weights
      subst hp
      dsimp only at x ⊢
      rw [hw]
      obtain ⟨r, l, rfl⟩ : ∃ (r : Fin 64) (l : Fin 128), x = ix2 r l := ⟨x 0, x 1, by funext a; match a with | ⟨0, _⟩ => rfl | ⟨1, _⟩ => rfl⟩
      refine (scale_apply s _ r l).trans ?_
      rw [rows_chans]
      obtain ⟨e0, e1⟩ := place (64 * n) (k1_off2 ⟨n, hn⟩) (off2 _) (k1_off2_inb _) r l
      rw [e0, e1]
    · exact ih (Nat.le_of_succ_le hn) p hp x

/-- The one entry of a one-entry array. -/
theorem ld_first (x0 : S1x1.Idx → Elt Ideal .f32) (h) (h') :
    View.ld (Val := Elt Ideal) (e' := .f32) x0 (Rect.unit ![0, 0] ![1, 1] h) (Shape.Idx.first h') = x0 (ix2 0 0) := by
  refine View.ld_unit_apply_of x0 _ _ _ _ _ fun a => ?_
  match a with
  | ⟨0, _⟩ => rfl
  | ⟨1, _⟩ => rfl

/-- The packed block after the body. -/
theorem out_codes (x0 : FVec Ideal S1x1 .f32) (x1 : FVec Ideal S512x2048 .bf16) (y : S512x1024.Idx) :
    out1_A_3 (F := Ideal) c i arg1 harg1 arg2 harg2 arg3 harg3 arg4 harg4 arg5 harg5 x0 x1 weights y
      = byte (x0 (ix2 0 0)) (chans512 x1 (y 0).val) (y 1).val := by
  have hc := cover1_A_3 (F := Ideal) c i arg1 harg1 arg2 harg2 arg3 harg3 arg4 harg4 arg5 harg5 x0 x1 weights y
  unfold kernelRun1_A at hc
  frame_out at hc
  frame_out
  refine View.canon_eq_of_allAt _ y _ hc ?_
  intro p hp x hx
  have h := pieces_codes c i arg1 harg1 arg2 harg2 arg3 harg3 arg4 harg4 arg5 harg5 (x0 (ix2 0 0)) x1 k1_t1_loop.trips le_rfl p
  rw [ld_first] at hp
  rw [h hp x, hx]

/-- The scales' block after the body. -/
theorem out_scales (x0 : FVec Ideal S1x1 .f32) (x1 : FVec Ideal S512x2048 .bf16) (y : S512x128.Idx) :
    (out1_A_4 (F := Ideal) c i arg1 harg1 arg2 harg2 arg3 harg3 arg4 harg4 arg5 harg5 x0 x1 weights y : EReal)
      = scl (x0 (ix2 0 0)) (chans512 x1 (y 0).val) (y 1).val := by
  have hc := cover1_A_4 (F := Ideal) c i arg1 harg1 arg2 harg2 arg3 harg3 arg4 harg4 arg5 harg5 x0 x1 weights y
  unfold kernelRun1_A at hc
  frame_out at hc
  frame_out
  refine View.canon_eq_of_allAt _ y _ hc ?_
  intro p hp x hx
  have h := pieces_scales c i arg1 harg1 arg2 harg2 arg3 harg3 arg4 harg4 arg5 harg5 (x0 (ix2 0 0)) x1 k1_t1_loop.trips le_rfl p
  rw [ld_first] at hp
  rw [h hp x, hx]
end

end Cert.Proof.Body
end
-- ==== Proof.RefCode.lean ====
module

public import proofs.«01_k».proof.Proof.Gen.ReferenceIdeal.Read
public import proofs.«01_k».proof.Proof.Body
public import Idealize.ShloMosaic.Lib.Pointwise

/-! The four-bit codes of the reference, one lane at a time. -/

@[expose] public section

set_option maxRecDepth 16384

noncomputable section

open Idealize.ShloMosaic Idealize.ShloMosaic.TcCoe Idealize.SL.Sem

namespace Cert.Proof.RefCode
open Cert.ReferenceIdeal Cert.ReferenceIdeal.Gen Cert.ReferenceIdeal.Read Cert.Proof.Code Cert.Proof.Piece Cert.Proof.Body

variable (r1 : FVec Ideal S16x4096x128 .f32) (e0 : FVec Ideal S_ .f32) (e1 : FVec Ideal S16x4096x128x16 .f32)

/-- The grid step the reference takes for a lane's value. -/
theorem step_word (i : S16x4096x128x16.Idx) (t : ℝ) (h : (val_main_v35 (F := Ideal) r1 e0 e1 i : EReal) = (t : EReal)) :
    (val_main_v42 (F := Ideal) r1 e0 e1 i : EReal) = (step |t| : EReal) := by
  simp only [val_main_v36_apply, val_main_cst_13_apply, val_main_v37_apply, val_main_v38_apply, val_main_cst_14_apply, val_main_v39_apply, val_main_v40_apply, val_main_cst_15_apply, val_main_cst_16_apply, val_main_call4_v0_apply, val_main_call4_v1_apply, val_main_v41_apply, val_main_cst_17_apply, val_main_call5_v0_apply, val_main_v42_apply]
  rw [h]
  pointwise
  rw [absf_coe, Code.lit_2, Code.lit_1_2, Code.lit_4]
  unfold step
  by_cases c : |t| < 2
  · rw [if_pos c, if_pos (EReal.coe_lt_coe_iff.2 c)]
  · rw [if_neg c, if_neg (fun d => c (EReal.coe_lt_coe_iff.1 d))]
    by_cases c' : |t| < 4
    · rw [if_pos c', if_pos (EReal.coe_lt_coe_iff.2 c')]
      rfl
    · rw [if_neg c', if_neg (fun d => c' (EReal.coe_lt_coe_iff.1 d))]

/-- The value the reference rounds a lane to. -/
theorem rnd_word (i : S16x4096x128x16.Idx) (t : ℝ) (h : (val_main_v35 (F := Ideal) r1 e0 e1 i : EReal) = (t : EReal)) :
    (val_main_v45 (F := Ideal) r1 e0 e1 i : EReal) = (rnd t : EReal) := by
  simp only [val_main_v43_apply, val_main_v44_apply, val_main_v45_apply]
  rw [step_word r1 e0 e1 i t h, h]
  pointwise
  have hs : step |t| ≠ 0 := by unfold step; split_ifs <;> norm_num
  rw [Ideal.div, if_neg (by exact_mod_cast hs), ← EReal.coe_inv, ← EReal.coe_mul, ← div_eq_mul_inv]
  rfl

/-- The code of a lane whose clipped value is the real number `t`. -/
theorem code_word (i : S16x4096x128x16.Idx) (t : ℝ) (h : (val_main_v35 (F := Ideal) r1 e0 e1 i : EReal) = (t : EReal)) :
    val_main_v79 (F := Ideal) r1 e0 e1 i = BitVec.ofNat 32 (code t) := by
  simp only [val_main_v46_apply, val_main_cst_18_apply, val_main_v47_apply, val_main_v48_apply, val_main_v49_apply, val_main_c_19_apply, val_main_v50_apply, val_main_v51_apply, val_main_cst_20_apply, val_main_v52_apply, val_main_v53_apply, val_main_v54_apply, val_main_v55_apply, val_main_cst_21_apply, val_main_v56_apply, val_main_v57_apply, val_main_v58_apply, val_main_v59_apply, val_main_cst_22_apply, val_main_v60_apply, val_main_v61_apply, val_main_v62_apply, val_main_v63_apply, val_main_cst_23_apply, val_main_v64_apply, val_main_v65_apply, val_main_v66_apply, val_main_v67_apply, val_main_cst_24_apply, val_main_v68_apply, val_main_v69_apply, val_main_v70_apply, val_main_v71_apply, val_main_cst_25_apply, val_main_v72_apply, val_main_v73_apply, val_main_v74_apply, val_main_v75_apply, val_main_cst_26_apply, val_main_v76_apply, val_main_v77_apply, val_main_c_27_apply, val_main_c_28_apply, val_main_call7_v0_apply, val_main_call7_v1_apply, val_main_v78_apply, val_main_v79_apply]
  rw [rnd_word r1 e0 e1 i t h]
  pointwise
  have h0 : (if (rnd t : EReal) < 0 then (8#32 : BitVec 32) else 0#32) = BitVec.ofNat 32 (sgn (rnd t)) := by
    unfold sgn
    by_cases c : rnd t < 0
    · rw [if_pos c, if_pos (EReal.coe_neg'.2 c)]
    · rw [if_neg c, if_neg (fun d => c (EReal.coe_neg'.1 d))]
  have h1 : (1 : EReal) = ((1 : ℝ) : EReal) := rfl
  rw [h0, absf_coe, h1, Code.lit_1_2, Code.lit_3_2, Code.lit_2, Code.lit_3, Code.lit_4, Code.lit_6]
  simp only [EReal.coe_le_coe_iff, bit_eq]
  unfold code values
  simp only [IntOp.addi, ← BitVec.ofNat_add, Nat.zero_add]

/-- The clipped value of a lane. -/
theorem clip_word (a : Fin 16) (b : Fin 4096) (g : Fin 128) (o : Fin 16) (s : EReal) :
    (val_main_v35 (F := Ideal) r1 (fun _ => s) e1 (ix4 a b g o) : EReal)
      = (clipR ((e1 (ix4 a b g o) : EReal) * inv s (r1 (ix3 a b g))) : EReal) := by
  simp only [val_main_cst_11_apply, val_main_cst_12_apply, val_main_call3_v0_apply, val_main_call3_v1_apply, val_main_call3_v2_apply, val_main_call3_v3_apply, val_main_call3_v4_apply, val_main_v35_apply, val_main_v27_apply, val_main_v28_apply, val_main_cst_9_apply, val_main_v29_apply, val_main_v30_apply, val_main_cst_10_apply, val_main_call2_v0_apply, val_main_v31_apply, val_main_v32_apply, val_main_v33_apply, val_main_v34_apply]
  rw [← clipR_coe]
  pointwise
  rw [Code.lit_6, Code.lit_neg_6, show idx_main_v32 (idx_main_v33 (ix4 a b g o)) = ix3 a b g from funext fun d => match d with | ⟨0, _⟩ => rfl | ⟨1, _⟩ => rfl | ⟨2, _⟩ => rfl]
  unfold Body.inv
  generalize hq : (if (r1 (ix3 a b g) : EReal) * s = 0 then (1 : EReal) else r1 (ix3 a b g) * s) = q
  have h0 : q ≠ 0 := by
    rw [← hq]
    split_ifs with h
    · exact one_ne_zero
    · exact h
  rw [Ideal.div, if_neg h0, Ideal.div, if_neg h0, one_mul]

/-- Two codes packed in a byte, the first in the low half. -/
theorem pack_word : ∀ u v : Fin 16,
    (IntOp.ori (BitVec.ofNat 32 u.val) (IntOp.shli ArithUnit.host (BitVec.ofNat 32 v.val) 4#32)).setWidth 8 = BitVec.ofNat 8 (u.val + 16 * v.val) := by
  decide +kernel

/-- The lane in the low half of byte `n`. -/
theorem even_idx (a : Fin 16) (b : Fin 4096) (n : Fin 1024) :
    idx_main_v80 (idx_main_v81 (idx_main_v82 (ix3 a b n))) = ix4 a b ⟨n.val / 8, by omega⟩ ⟨2 * (n.val % 8), by omega⟩ := by
  have ha := a.isLt
  have hb := b.isLt
  have hn := n.isLt
  have e0 : ((a.val * 4096 + b.val) * 1024 + n.val) / 4194304 = a.val := by omega
  have e1 : ((a.val * 4096 + b.val) * 1024 + n.val) / 1024 % 4096 = b.val := by omega
  have e2 : ((a.val * 4096 + b.val) * 1024 + n.val) / 1 % 1024 = n.val := by omega
  funext d
  apply Fin.ext
  match d with
  | ⟨0, _⟩ =>
    show (((((a.val * 4096 + b.val) * 1024 + n.val) / 4194304 * 4096 + ((a.val * 4096 + b.val) * 1024 + n.val) / 1024 % 4096) * 1024 + ((a.val * 4096 + b.val) * 1024 + n.val) / 1 % 1024) * 2 + 0) / 8388608 = a.val
    rw [e0, e1, e2]; omega
  | ⟨1, _⟩ =>
    show (((((a.val * 4096 + b.val) * 1024 + n.val) / 4194304 * 4096 + ((a.val * 4096 + b.val) * 1024 + n.val) / 1024 % 4096) * 1024 + ((a.val * 4096 + b.val) * 1024 + n.val) / 1 % 1024) * 2 + 0) / 2048 % 4096 = b.val
    rw [e0, e1, e2]; omega
  | ⟨2, _⟩ =>
    show (((((a.val * 4096 + b.val) * 1024 + n.val) / 4194304 * 4096 + ((a.val * 4096 + b.val) * 1024 + n.val) / 1024 % 4096) * 1024 + ((a.val * 4096 + b.val) * 1024 + n.val) / 1 % 1024) * 2 + 0) / 16 % 128 = n.val / 8
    rw [e0, e1, e2]; omega
  | ⟨3, _⟩ =>
    show (((((a.val * 4096 + b.val) * 1024 + n.val) / 4194304 * 4096 + ((a.val * 4096 + b.val) * 1024 + n.val) / 1024 % 4096) * 1024 + ((a.val * 4096 + b.val) * 1024 + n.val) / 1 % 1024) * 2 + 0) % 16 = 2 * (n.val % 8)
    rw [e0, e1, e2]; omega

/-- The lane in the high half of byte `n`. -/
theorem odd_idx (a : Fin 16) (b : Fin 4096) (n : Fin 1024) :
    idx_main_v80 (idx_main_v83 (idx_main_v84 (ix3 a b n))) = ix4 a b ⟨n.val / 8, by omega⟩ ⟨2 * (n.val % 8) + 1, by omega⟩ := by
  have ha := a.isLt
  have hb := b.isLt
  have hn := n.isLt
  have e0 : ((a.val * 4096 + b.val) * 1024 + n.val) / 4194304 = a.val := by omega
  have e1 : ((a.val * 4096 + b.val) * 1024 + n.val) / 1024 % 4096 = b.val := by omega
  have e2 : ((a.val * 4096 + b.val) * 1024 + n.val) / 1 % 1024 = n.val := by omega
  funext d
  apply Fin.ext
  match d with
  | ⟨0, _⟩ =>
    show (((((a.val * 4096 + b.val) * 1024 + n.val) / 4194304 * 4096 + ((a.val * 4096 + b.val) * 1024 + n.val) / 1024 % 4096) * 1024 + ((a.val * 4096 + b.val) * 1024 + n.val) / 1 % 1024) * 2 + (1 + 0)) / 8388608 = a.val
    rw [e0, e1, e2]; omega
  | ⟨1, _⟩ =>
    show (((((a.val * 4096 + b.val) * 1024 + n.val) / 4194304 * 4096 + ((a.val * 4096 + b.val) * 1024 + n.val) / 1024 % 4096) * 1024 + ((a.val * 4096 + b.val) * 1024 + n.val) / 1 % 1024) * 2 + (1 + 0)) / 2048 % 4096 = b.val
    rw [e0, e1, e2]; omega
  | ⟨2, _⟩ =>
    show (((((a.val * 4096 + b.val) * 1024 + n.val) / 4194304 * 4096 + ((a.val * 4096 + b.val) * 1024 + n.val) / 1024 % 4096) * 1024 + ((a.val * 4096 + b.val) * 1024 + n.val) / 1 % 1024) * 2 + (1 + 0)) / 16 % 128 = n.val / 8
    rw [e0, e1, e2]; omega
  | ⟨3, _⟩ =>
    show (((((a.val * 4096 + b.val) * 1024 + n.val) / 4194304 * 4096 + ((a.val * 4096 + b.val) * 1024 + n.val) / 1024 % 4096) * 1024 + ((a.val * 4096 + b.val) * 1024 + n.val) / 1 % 1024) * 2 + (1 + 0)) % 16 = 2 * (n.val % 8) + 1
    rw [e0, e1, e2]; omega

/-- A packed byte of the reference. -/
theorem packed_word (a : Fin 16) (b : Fin 4096) (n : Fin 1024) (s : EReal) :
    val_main_v88 (F := Ideal) r1 (fun _ => s) e1 (ix3 a b n)
      = pairByte (e1 (ix4 a b ⟨n.val / 8, by omega⟩ ⟨2 * (n.val % 8), by omega⟩)) (e1 (ix4 a b ⟨n.val / 8, by omega⟩ ⟨2 * (n.val % 8) + 1, by omega⟩))
          (inv s (r1 (ix3 a b ⟨n.val / 8, by omega⟩))) := by
  have h0 := code_word r1 (fun _ => s) e1 _ _ (clip_word r1 e1 a b ⟨n.val / 8, by omega⟩ ⟨2 * (n.val % 8), by omega⟩ s)
  have h1 := code_word r1 (fun _ => s) e1 _ _ (clip_word r1 e1 a b ⟨n.val / 8, by omega⟩ ⟨2 * (n.val % 8) + 1, by omega⟩ s)
  simp only [val_main_v80_apply, val_main_v81_apply, val_main_v82_apply, val_main_v83_apply, val_main_v84_apply, val_main_c_29_apply, val_main_v85_apply, val_main_v86_apply, val_main_v87_apply, val_main_v88_apply]
  rw [even_idx, odd_idx, h0, h1]
  exact pack_word ⟨_, code_lt _⟩ ⟨_, code_lt _⟩

end Cert.Proof.RefCode

end
-- ==== Proof.Max.lean ====
/-
  What the maximum kernel's body leaves in its 8 × 128 block of running maxima.
-/
module

public import proofs.«01_k».proof.Proof.Body
public import Idealize.ShloMosaic.Lib.Pipeline.Covers

@[expose] public section
set_option maxRecDepth 16384
noncomputable section
open Idealize.ShloMosaic Idealize.ShloMosaic.TcCoe Idealize.SL.Sem

namespace Cert.Proof.Max
open Cert.KernelIdeal Cert.KernelIdeal.Gen Cert.Proof.Rotate Cert.Proof.Sub Cert.Proof.Body

/-- The loop makes eight trips. -/
theorem trips_eq : k0_t1_loop.trips = 8 := by decide +kernel
/-- A trip's load begins at row 64 k. -/
theorem off1 : ∀ k : Fin k0_t1_loop.trips, k0_off1 k = ![64 * k.val, 0] := by decide +kernel

/-- The rows a trip loads, row by row. -/
theorem rows_chans (arg1 : Memref sig .tc .vmem S512x2048 .bf16) (harg1 : arg1.IsWhole) (x0 : FVec Ideal S512x2048 .bf16)
    (k : Fin k0_t1_loop.trips) (r : Fin 64) :
    chans (rows0 (F := Ideal) arg1 (harg1.unread x0) k) r = chans512 x0 (64 * k.val + r.val) := by
  have hk : k.val < 8 := Nat.lt_of_lt_of_le k.isLt trips_eq.le
  funext n
  unfold chans chans512
  by_cases hn : n < 2048
  · have hr : 64 * k.val + r.val < 512 := by omega
    rw [dif_pos hn, dif_pos ⟨hr, hn⟩]
    show View.ld (arg1.view.read (Elt Ideal) (harg1.unread x0)) _ _ = _
    rw [harg1.read_unread]
    refine View.ld_unit_apply_of (Val := Elt Ideal) (e := .bf16) x0 _ _ _ _ _ fun a => ?_
    match a with
    | ⟨0, _⟩ => exact (congrArg (· + r.val) (congrFun (off1 k) 0)).symm
    | ⟨1, _⟩ => exact ((congrArg (· + n) (congrFun (off1 k) 1)).trans (Nat.zero_add n)).symm
  · rw [dif_neg hn, dif_neg (fun h => hn h.2)]

/-- The weights a trip loads. -/
theorem wts_eq (arg2 : Memref sig .tc .vmem S256x256 .bf16) (harg2 : arg2.IsWhole) (x1 : FVec Ideal S256x256 .bf16) :
    wts0 (F := Ideal) arg2 (harg2.unread x1) = x1 := by
  show View.ld (arg2.view.read (Elt Ideal) (harg2.unread x1)) _ = _
  rw [harg2.read_unread]
  refine View.ld_unit_zero ?_ _ _
  funext a
  match a with
  | ⟨0, _⟩ => rfl
  | ⟨1, _⟩ => rfl

/-- The rotated channels that lane `l`, sublane `i` sees in the first `n` trips over a block of
    512 rows are below `B`. -/
def Below (x0 : FVec Ideal S512x2048 .bf16) (i : Fin 8) (l : Fin 128) (B : EReal) (n : ℕ) : Prop :=
  ∀ t : ℕ, t < n → ∀ (k s : Fin 8) (p : Fin 2),
    abv (rot (chans512 x0 (64 * t + (8 * s.val + i.val))) (16 * k.val + l.val % 16) (2 * (l.val / 16) + p.val)) ≤ B

section
variable (c : Dev nD) (i : grid0.Coords) (arg1 : Memref sig .tc .vmem S512x2048 .bf16) (harg1 : arg1.IsWhole) (arg2 : Memref sig .tc .vmem S256x256 .bf16) (harg2 : arg2.IsWhole) (arg3 : Memref sig .tc .vmem S8x128 .f32) (harg3 : arg3.IsWhole)

/-- The loop's running maxima before trip `n`. -/
theorem loop_le (x0 : FVec Ideal S512x2048 .bf16) (init : FVec Ideal S8x128 .f32) (a : Fin 8) (l : Fin 128) (B : EReal)
    (n : ℕ) (hn : n ≤ k0_t1_loop.trips) :
    (st_k0_t1 (F := Ideal) Variants.none c none i arg1 harg1 arg2 harg2 arg3 harg3 (harg1.unread x0) (harg2.unread weights) init n (ix2 a l) : EReal) ≤ B
      ↔ (init (ix2 a l) : EReal) ≤ B ∧ Below x0 a l B n := by
  induction n with
  | zero => exact ⟨fun h => ⟨h, fun t ht => absurd ht (Nat.not_lt_zero t)⟩, fun h => h.1⟩
  | succ n ih =>
    rw [st_k0_t1_succ (k := ⟨n, hn⟩), trip_joined, wts_eq, joined_le]
    simp only [rows_chans]
    rw [ih (Nat.le_of_succ_le hn), and_assoc]
    refine and_congr_right fun _ => ?_
    unfold Below
    constructor
    · rintro ⟨h, h'⟩ t ht
      rcases Nat.lt_succ_iff_lt_or_eq.1 ht with ht | rfl
      · exact h t ht
      · exact h'
    · intro h
      exact ⟨fun t ht => h t (Nat.lt_succ_of_lt ht), h n (Nat.lt_succ_self n)⟩

/-- After a later point: the maxima found before, and this block's. -/
theorem out_B_le (hc : ¬cond0_0 i) (x0 : FVec Ideal S512x2048 .bf16) (xo : FVec Ideal S8x128 .f32) (a : Fin 8) (l : Fin 128) (B : EReal) :
    (out0_B_2 (F := Ideal) c i arg1 harg1 arg2 harg2 arg3 harg3 hc x0 weights xo (ix2 a l) : EReal) ≤ B
      ↔ (xo (ix2 a l) : EReal) ≤ B ∧ Below x0 a l B 8 := by
  frame_out
  rw [show Scf.trips (0#32) (Scalar.addi 0#32 8#32) 1#32 = 8 from trips_eq, loop_le _ _ _ _ _ _ _ _ _ _ _ _ _ _ trips_eq.ge]
  refine and_congr_left fun _ => ?_
  pointwise [k0_pay2]

/-- After the first point: zero, and this block's maxima. -/
theorem out_A_le (hc : cond0_0 i) (x0 : FVec Ideal S512x2048 .bf16) (a : Fin 8) (l : Fin 128) (B : EReal) :
    (out0_A_2 (F := Ideal) c i arg1 harg1 arg2 harg2 arg3 harg3 hc x0 weights (ix2 a l) : EReal) ≤ B
      ↔ (0 : EReal) ≤ B ∧ Below x0 a l B 8 := by
  frame_out
  rw [show Scf.trips (0#32) (Scalar.addi 0#32 8#32) 1#32 = 8 from trips_eq, loop_le _ _ _ _ _ _ _ _ _ _ _ _ _ _ trips_eq.ge]
  refine and_congr_left fun _ => ?_
  pointwise [k0_pay2, k0_pay1]
end

/-- Row `R` of the 65536 rows. -/
def chansAll (X : FVec Ideal S65536x2048 .bf16) (R : ℕ) : ℕ → EReal :=
  fun n => if h : R < 65536 ∧ n < 2048 then X (ix2 ⟨R, h.1⟩ ⟨n, h.2⟩) else 0

section
variable (V : (c : Dev nD) → (b : Ref sig .tc) → Buf (Elt Ideal) ((c : Thread nD τ).loc b)) (c : Dev nD)

/-- Grid point `t` takes the t-th block of rows. -/
theorem index_row : ∀ t : Fin cfg0.N, win0_0.index t 0 = t.val := by decide +kernel

/-- Grid point `t` sees rows `512 t` onwards. -/
theorem block_chans (t : Fin cfg0.N) (r : ℕ) (hr : r < 512) :
    chans512 (iblk0 (F := Ideal) V c 0 t) r = chansAll (V c main_v0) (512 * t.val + r) := by
  have ht : t.val < 128 := t.isLt
  funext n
  unfold chans512 chansAll
  by_cases hn : n < 2048
  · have hR : 512 * t.val + r < 65536 := by omega
    rw [dif_pos ⟨hr, hn⟩, dif_pos ⟨hR, hn⟩]
    blk_simp [iblk0]
    refine congrArg (V c main_v0) (funext fun a => Fin.ext ?_)
    match a with
    | ⟨0, _⟩ =>
      show win0_0.index t 0 * 512 + 1 * r = 512 * t.val + r
      rw [index_row]; omega
    | ⟨1, _⟩ =>
      show win0_0.index t 1 * 2048 + 1 * n = n
      rw [show win0_0.index t 1 = 0 from rfl]; omega
  · rw [dif_neg (fun h => hn h.2), dif_neg (fun h => hn h.2)]

/-- Every grid point sees the whole weights. -/
theorem block_weights (hw : V c main_cst = weights) (t : Fin cfg0.N) : iblk0 (F := Ideal) V c 1 t = weights := by
  rw [← hw]
  funext j
  blk_simp [iblk0]
  refine congrArg (V c main_cst) (funext fun a => Fin.ext ?_)
  match a with
  | ⟨0, _⟩ =>
    show win0_1.index t 0 * 256 + 1 * (j 0).val = (j 0).val
    rw [show win0_1.index t 0 = 0 from rfl]; omega
  | ⟨1, _⟩ =>
    show win0_1.index t 1 * 256 + 1 * (j 1).val = (j 1).val
    rw [show win0_1.index t 1 = 0 from rfl]; omega

/-- The running maxima after grid point `n`. -/
theorem outs_le (hw : V c main_cst = weights) (a : Fin 8) (l : Fin 128) (B : EReal) (n : ℕ) (hn : n < cfg0.N) :
    (outsAt0 (F := Ideal) V c n hn (ix2 a l) : EReal) ≤ B
      ↔ (0 : EReal) ≤ B ∧ ∀ t (ht : t < cfg0.N), t ≤ n → Below (iblk0 (F := Ideal) V c 0 ⟨t, ht⟩) a l B 8 := by
  have hN : cfg0.N = 128 := N_0
  induction n with
  | zero =>
    rw [outsAt0_A V c ⟨0, hn⟩ rfl, block_weights V c hw, out_A_le]
    refine and_congr_right fun _ => ⟨fun h t ht h0 => ?_, fun h => h 0 hn le_rfl⟩
    obtain rfl : t = 0 := Nat.le_zero.1 h0
    exact h
  | succ n ih =>
    have hB : ¬(⟨n + 1, hn⟩ : Fin cfg0.N).val % 128 = 0 := by dsimp only; omega
    rw [outsAt0_B V c ⟨n + 1, hn⟩ hB, block_weights V c hw, out_B_le]
    have ih := ih (Nat.lt_of_succ_lt hn)
    refine (and_congr_left fun _ => ih).trans ?_
    rw [and_assoc]
    refine and_congr_right fun _ => ⟨fun h t ht h0 => ?_, fun h => ⟨fun t ht h0 => h t ht (Nat.le_succ_of_le h0), h (n + 1) hn le_rfl⟩⟩
    rcases Nat.of_le_succ h0 with h0 | rfl
    · exact h.1 t ht h0
    · exact h.2

/-- The greatest magnitude of all rotated channels is below `B`. -/
def AllBelow (X : FVec Ideal S65536x2048 .bf16) (B : EReal) : Prop :=
  ∀ (R : ℕ) (b o : ℕ), R < 65536 → b < 128 → o < 16 → abv (rot (chansAll X R) b o) ≤ B

/-- After the last point, the whole block of running maxima is below `B` exactly when all magnitudes are. -/
theorem last_le (hw : V c main_cst = weights) (B : EReal) (h127 : 127 < cfg0.N) :
    (∀ (a : Fin 8) (l : Fin 128), (outsAt0 (F := Ideal) V c 127 h127 (ix2 a l) : EReal) ≤ B)
      ↔ AllBelow (V c main_v0) B := by
  have hN : cfg0.N = 128 := N_0
  simp only [outs_le V c hw]
  constructor
  · intro h R b o hR hb ho
    have h1 := (h ⟨R % 8, by omega⟩ ⟨16 * (o / 2) + b % 16, by omega⟩).2 (R / 512) (by omega) (by omega)
      (R % 512 / 64) (by omega) ⟨b / 16, by omega⟩ ⟨R % 64 / 8, by omega⟩ ⟨o % 2, by omega⟩
    rw [block_chans _ _ _ _ (by dsimp only; omega)] at h1
    dsimp only at h1
    rwa [show 512 * (R / 512) + (64 * (R % 512 / 64) + (8 * (R % 64 / 8) + R % 8)) = R by omega,
      show 16 * (b / 16) + (16 * (o / 2) + b % 16) % 16 = b by omega,
      show 2 * ((16 * (o / 2) + b % 16) / 16) + o % 2 = o by omega] at h1
  · intro h a l
    refine ⟨?_, fun t ht h0 u hu k s p => ?_⟩
    · have := h 0 0 0 (by omega) (by omega) (by omega)
      refine le_trans ?_ this
      unfold abv
      rcases le_total 0 (rot (chansAll (V c main_v0) 0) 0 0) with h | h
      · exact le_max_of_le_left h
      · exact le_max_of_le_right (EReal.neg_nonneg.2 h)
    · have := a.isLt; have := l.isLt; have := k.isLt; have := s.isLt; have := p.isLt
      rw [block_chans _ _ _ _ (by omega)]
      exact h _ _ _ (by dsimp only; omega) (by omega) (by omega)

/-- The one block of maxima is the whole of their array. -/
theorem covers2 : (cfg0.win 2).Covers :=
  (cfg0.win 2).covers_of_index_surj rfl (by decide) fun β =>
    ⟨⟨0, by decide⟩, fun a => by
      match a with
      | ⟨0, h⟩ =>
        have := lt_of_lt_of_eq (β ⟨0, h⟩).isLt (by decide : (cfg0.win 2).nblk ⟨0, Nat.zero_lt_two⟩ = 1)
        exact (Nat.lt_one_iff.1 this).symm
      | ⟨1, h⟩ =>
        have := lt_of_lt_of_eq (β ⟨1, h⟩).isLt (by decide : (cfg0.win 2).nblk ⟨1, Nat.one_lt_two⟩ = 1)
        exact (Nat.lt_one_iff.1 this).symm⟩

/-- The maximum kernel's result: what the last grid point leaves. -/
theorem result (h127 : 127 < cfg0.N) : (dat0 (F := Ideal) V c).arrAt 2 cfg0.N = outsAt0 (F := Ideal) V c 127 h127 := by
  have hN : cfg0.N = 128 := N_0
  refine (dat0 (F := Ideal) V c).arrAt_eq_of_covers 2 _ covers2 fun t hf y => ?_
  have h3 : t.val = 127 := by have := (flush0_2 t).mp hf; have := t.isLt; omega
  obtain rfl : t = ⟨127, h127⟩ := Fin.ext h3
  show outsAt0 (F := Ideal) V c 127 h127 y = outsAt0 (F := Ideal) V c 127 h127 ((win0_2.blk ⟨127, h127⟩).view.emb y)
  refine congrArg _ (funext fun a => Fin.ext ?_)
  match a with
  | ⟨0, _⟩ =>
    show (y 0).val = win0_2.index ⟨127, h127⟩ 0 * 8 + 1 * (y 0).val
    rw [show win0_2.index ⟨127, h127⟩ 0 = 0 from rfl]; omega
  | ⟨1, _⟩ =>
    show (y 1).val = win0_2.index ⟨127, h127⟩ 1 * 128 + 1 * (y 1).val
    rw [show win0_2.index ⟨127, h127⟩ 1 = 0 from rfl]; omega

end

end Cert.Proof.Max
end
-- ==== Proof.Global.lean ====
/-
  The global scale: the greatest magnitude of all rotated channels, and the scale it gives.
-/
module

public import proofs.«01_k».proof.Proof.Max

@[expose] public section
set_option maxRecDepth 16384
noncomputable section
open Idealize.ShloMosaic Idealize.ShloMosaic.TcCoe Idealize.SL.Sem

namespace Cert.Proof.Global
open Cert.KernelIdeal Cert.Proof.Rotate Cert.Proof.Sub Cert.Proof.Body Cert.Proof.Max

/-- The greatest magnitude of all rotated channels. -/
def amax (X : FVec Ideal S65536x2048 .bf16) : EReal :=
  ⨆ (R : Fin 65536) (b : Fin 128) (o : Fin 16), abv (rot (chansAll X R.val) b.val o.val)

/-- The greatest magnitude is at most `B` exactly when every magnitude is. -/
theorem amax_le (X : FVec Ideal S65536x2048 .bf16) (B : EReal) : amax X ≤ B ↔ AllBelow X B := by
  unfold amax AllBelow
  simp only [iSup_le_iff]
  exact ⟨fun h R b o hR hb ho => h ⟨R, hR⟩ ⟨b, hb⟩ ⟨o, ho⟩, fun h R b o => h _ _ _ R.isLt b.isLt o.isLt⟩

/-- The global scale for a greatest magnitude `A`. -/
def glob (A : EReal) : EReal :=
  if 0 < A then Ideal.div A (Ideal.ofBits .f32 0x45280000#32) else 1

/-- The maximum of a whole array is below `B` exactly when every element is. -/
theorem reduce_max_le {s t u : Shape} {axes : List (Fin s.rank)} (x : FVec Ideal s .f32) (init : FVec Ideal u .f32)
    (h : s.ReducesTo axes t) (hu : 0 < u.numel) (ht : ∀ a b : t.Idx, a = b) (j : t.Idx)
    (hi : init = constant (F := Ideal) u .f32 0xFF800000#32) (B : EReal) :
    (Host.reduce (FloatOps.maximumf (F := Ideal) (φ := .f32)) x init h hu j : EReal) ≤ B ↔ ∀ i, (x i : EReal) ≤ B := by
  subst hi
  rw [Host.reduce_eq_fold, Finset.filter_true_of_mem fun i _ => ht _ _]
  refine (Finset.fold_op_rel_iff_and (r := fun a b : Ideal .f32 => (b : EReal) ≤ (a : EReal))
    (op := FloatOps.maximumf (F := Ideal) (φ := .f32)) (c := (B : Ideal .f32)) fun {x y z} => (max_le_iff : max (y : EReal) z ≤ x ↔ _)).trans ?_
  refine ⟨fun H i => H.2 i (Finset.mem_univ _), fun H => ⟨?_, fun i _ => H i⟩⟩
  have : (constant (F := Ideal) u .f32 0xFF800000#32 (Shape.Idx.first hu) : EReal) = ⊥ := by
    show Ideal.ofBits .f32 0xFF800000#32 = ⊥
    simp [Ideal.ofBits, Ideal.ieee]
  rw [this]; exact bot_le

/-- The scale the host computes from a maximum. -/
theorem glob_eq (M : FVec Ideal S_ .f32) (A : EReal) (h : ∀ j, (M j : EReal) = A) :
    select (cmpf (F := Ideal) .ogt M (constant (F := Ideal) S_ .f32 0x00000000#32))
        (Host.divf M (constant (F := Ideal) S_ .f32 0x45280000#32)) (constant (F := Ideal) S_ .f32 0x3F800000#32)
      = (fun _ => glob A : FVec Ideal S_ .f32) := by
  funext j
  have h := h j
  pointwise []
  unfold glob
  rw [← h]

end Cert.Proof.Global
end
-- ==== Proof.RefRotate.lean ====
/-
  The reference's rotation: its matrix of signs, and its product with the input's blocks.
-/
module

public import proofs.«01_k».proof.Proof.Global
public import proofs.«01_k».proof.Proof.Gen.ReferenceIdeal.Run

@[expose] public section
set_option maxRecDepth 16384
noncomputable section
open Idealize.ShloMosaic Idealize.ShloMosaic.TcCoe Idealize.SL.Sem

namespace Cert.Proof.RefRotate
open Cert.ReferenceIdeal Cert.ReferenceIdeal.Gen Cert.Proof.Rotate Cert.Proof.Sub Cert.Proof.Body Cert.Proof.Max

/-- The reference's matrix. -/
def matrix : FVec Ideal S16x16 .f32 :=
  select (cmpi .eq (andi (ctpop (andi (broadcastInDim S16x16 ![0, 1] bcast_S16x1_S16x16_0_1 (broadcastInDim S16x1 ![0] bcast_S16_S16x1_0 (iotaInDim S16 32 0))) (broadcastInDim S16x16 ![0, 1] bcast_S1x16_S16x16_0_1 (broadcastInDim S1x16 ![1] bcast_S16_S1x16_1 (iotaInDim S16 32 0))))) (broadcastInDim S16x16 ![] bcast_S_S16x16 (constantI S_ 32 1#32))) (broadcastInDim S16x16 ![] bcast_S_S16x16 (constantI S_ 32 0#32))) (broadcastInDim S16x16 ![] bcast_S_S16x16 (constant (F := Ideal) S_ .f32 0x3E800000#32)) (broadcastInDim S16x16 ![] bcast_S_S16x16 (constant (F := Ideal) S_ .f32 0xBE800000#32))

/-- The sign bit is the parity of the common bits. -/
theorem sign_word : ∀ i o : Fin 16,
    IntOp.cmpi CmpIPredicate.eq (IntOp.andi (IntOp.ctpop (IntOp.andi (BitVec.ofNat 32 i.val) (BitVec.ofNat 32 o.val))) 1#32) 0#32
      = if Weight.parity (i.val &&& o.val) = 0 then 1#1 else 0#1 := by decide +kernel

/-- Its entries. -/
theorem matrix_apply (i o : Fin 16) : (matrix (ix2 i o) : EReal) = had i.val o.val := by
  pointwise [matrix]
  rw [sign_word, Code.lit_quarter, Code.lit_neg_quarter]
  unfold had
  by_cases h : Weight.parity (i.val &&& o.val) = 0
  · rw [if_pos h, if_pos h]; rfl
  · rw [if_neg h, if_neg h]; rfl

/-- The input, as 65536 rows. -/
abbrev flat (x : FVec Ideal S16x4096x2048 .bf16) : FVec Ideal Cert.KernelIdeal.S65536x2048 .bf16 :=
  shapeCast Cert.KernelIdeal.S65536x2048 x Cert.KernelIdeal.Gen.facts.shapeCasts_S16x4096x2048_S65536x2048

/-- The rotated input. -/
def rotated (x : FVec Ideal S16x4096x2048 .bf16) : FVec Ideal S16x4096x128x16 .f32 :=
  Host.dotGeneral dot_S16x4096x128x16_S16x16_S16x4096x128x16_3_0_012_1_n_n (some .fp32) (shapeCast _ (extf .f32 x bitsLt_bf16_f32) shapeCasts_S16x4096x2048_S16x4096x128x16) matrix

/-- An entry of the rotated input is the kernel's rotation of the same channels. -/
theorem rotated_apply (x : FVec Ideal S16x4096x2048 .bf16) (a : Fin 16) (b : Fin 4096) (g : Fin 128) (o : Fin 16) :
    (rotated x (ix4 a b g o) : EReal) = rot (chansAll (flat x) (4096 * a.val + b.val)) g.val o.val := by
  have hm := matrix_apply
  unfold rotated
  generalize matrix = M at hm
  have ha := a.isLt
  have hb := b.isLt
  have hg := g.isLt
  pointwise
  unfold rot
  refine Finset.sum_congr rfl fun i _ => ?_
  have hi := i.isLt
  rw [hm]
  refine congrArg (· * had i.val o.val) ?_
  unfold chansAll
  rw [dif_pos ⟨by omega, by omega⟩]
  pointwise
  exact congrArg (fun n => (x (ix3 a b n) : EReal)) (Fin.ext (by show g.val * 16 + i.val = 16 * g.val + i.val; omega))

/-- Every magnitude of the rotated input is below `B` exactly when every magnitude of the kernel's is. -/
theorem rotated_le (x : FVec Ideal S16x4096x2048 .bf16) (B : EReal) :
    (∀ i : S16x4096x128x16.Idx, (Host.absf (rotated x) i : EReal) ≤ B) ↔ AllBelow (flat x) B := by
  constructor
  · intro h R b o hR hb ho
    have h1 := h (ix4 ⟨R / 4096, by omega⟩ ⟨R % 4096, by omega⟩ ⟨b, hb⟩ ⟨o, ho⟩)
    have h2 := rotated_apply x ⟨R / 4096, by omega⟩ ⟨R % 4096, by omega⟩ ⟨b, hb⟩ ⟨o, ho⟩
    dsimp only at h2
    rw [show 4096 * (R / 4096) + R % 4096 = R by omega] at h2
    rw [← h2]
    exact h1
  · intro h i
    have h1 := h (4096 * (i 0).val + (i 1).val) (i 2).val (i 3).val
      (by have h0 : (i 0).val < 16 := (i 0).isLt; have h1 : (i 1).val < 4096 := (i 1).isLt; omega) (i 2).isLt (i 3).isLt
    rw [← rotated_apply x (i 0) (i 1) (i 2) (i 3)] at h1
    rw [← ix4_eta i]
    exact h1

/-- The reference's greatest magnitude is the kernel's. -/
theorem rotated_max (x : FVec Ideal S16x4096x2048 .bf16) (j : S_.Idx) :
    (Host.reduce (FloatOps.maximumf (F := Ideal) (φ := .f32)) (Host.absf (rotated x)) (constant (F := Ideal) S_ .f32 0xFF800000#32)
      reducesTo_S16x4096x128x16_S_d0_1_2_3 h_S_ j : EReal) = Global.amax (flat x) := by
  refine eq_of_forall_ge_iff fun B => (Global.reduce_max_le _ _ _ _ (fun a b => funext fun i => i.elim0) _ rfl B).trans ?_
  rw [Global.amax_le, rotated_le]

/-- The greatest magnitude of one block. -/
theorem block_max (x : FVec Ideal S16x4096x2048 .bf16) (a : Fin 16) (b : Fin 4096) (g : Fin 128) :
    (Host.reduce (FloatOps.maximumf (F := Ideal) (φ := .f32)) (Host.absf (rotated x)) (constant (F := Ideal) S_ .f32 0xFF800000#32)
      reducesTo_S16x4096x128x16_S16x4096x128_d3 h_S_ (ix3 a b g) : EReal)
      = bmax (chansAll (flat x) (4096 * a.val + b.val)) g.val := by
  have h := rotated_apply x a b g
  generalize rotated x = y at h
  pointwise
  refine eq_of_forall_ge_iff fun B => (Finset.fold_op_rel_iff_and (r := fun a b : Ideal .f32 => (b : EReal) ≤ (a : EReal))
    (op := FloatOps.maximumf (F := Ideal) (φ := .f32)) (c := (B : Ideal .f32))
    fun {x y z} => (max_le_iff : max (y : EReal) z ≤ x ↔ _)).trans ?_
  unfold bmax
  rw [Finset.sup_le_iff]
  constructor
  · intro h1 o ho
    rw [← h o]
    exact h1.2 o ho
  · intro h1
    refine ⟨?_, fun o ho => ?_⟩
    · rw [show Ideal.ofBits .f32 0xFF800000#32 = ⊥ by simp [Ideal.ofBits, Ideal.ieee]]
      exact bot_le
    · have h2 := h1 o ho
      rw [← h o] at h2
      exact h2

end Cert.Proof.RefRotate
end
-- ==== Proof.RefRun.lean ====
module

public import proofs.«01_k».proof.Proof.RefRotate
public import Idealize.ShloMosaic.Lib.Pointwise
public import Idealize.ShloMosaic.Lib.Pipeline.Covers

/-! What the reference computes before it packs: the rotated input, the global scale and the block scales. -/

@[expose] public section

set_option maxRecDepth 16384

noncomputable section

open Idealize.ShloMosaic Idealize.ShloMosaic.TcCoe Idealize.SL.Sem

namespace Cert.Proof.RefRun
open Cert.ReferenceIdeal Cert.ReferenceIdeal.Gen Cert.Proof.Rotate Cert.Proof.Sub Cert.Proof.Body Cert.Proof.Max Cert.Proof.Global Cert.Proof.RefRotate

variable (m : (ℓ : Loc nD τ sig) → Buf (Elt Ideal) ℓ)

/-- The input of the reference. -/
abbrev input (c : Dev nD) : FVec Ideal S16x4096x2048 .bf16 := m ((c.tc : Thread nD τ).loc main_arg0)

/-- The block scales, from the rotated input and the global scale. -/
def scales (y : FVec Ideal S16x4096x128x16 .f32) (s : FVec Ideal S_ .f32) : FVec Ideal S16x4096x128 .f32 :=
  minimumf (Host.divf (Host.reduce FloatOps.maximumf (Host.absf y) (constant (F := Ideal) S_ .f32 0xFF800000#32) reducesTo_S16x4096x128x16_S16x4096x128_d3 h_S_)
    (broadcastInDim S16x4096x128 ![] bcast_S_S16x4096x128 (mulf (constant (F := Ideal) S_ .f32 0x40C00000#32) s)))
    (broadcastInDim S16x4096x128 ![] bcast_S_S16x4096x128 (constant (F := Ideal) S_ .f32 0x43E00000#32))

set_option maxHeartbeats 2000000 in
/-- What the region reads. -/
theorem in_v25 (c : Dev nD) : Gen.V0 m c (Proc.devRef .tc main_v25)
    = scales (Gen.V0 m c (Proc.devRef .tc main_v14)) (Gen.V0 m c (Proc.devRef .tc main_v19)) := by
  unfold scales
  simp only [Gen.V0, Gen.hostOps0, Gen.hostOps0_1, Gen.hostOps0_2, Gen.hostOps0_3, Gen.hostOps0_4, StableHlo.TRef.ternary, StableHlo.TRef.unary, StableHlo.TRef.toBuf, StableHlo.TRef.ofBuf, cast_eq, List.flatten_cons, List.flatten_nil, List.append_nil, List.cons_append, List.nil_append]
  after_results_simp <;> rfl

/-- The rotated input, before the region and after it. -/
theorem in_v14 (c : Dev nD) : Value.exitV m c (Proc.devRef .tc main_v14) = rotated (input m c) := Value.exit_main_v14 m c

/-- The global scale, after the region. -/
theorem in_v19 (c : Dev nD) : Value.exitV m c (Proc.devRef .tc main_v19) = fun _ : S_.Idx => glob (amax (flat (input m c))) := by
  refine (Value.exit_main_v19 m c).trans ?_
  exact glob_eq _ _ fun j => rotated_max (input m c) j

/-- The region leaves the rotated input as it was. -/
theorem same_v14 (c : Dev nD) : Value.exitV m c (Proc.devRef .tc main_v14) = Gen.V0 m c (Proc.devRef .tc main_v14) :=
  Pipeline.withArrays_of_ne _ c (Gen.V0 m c) _ main_v14 (by exact (by decide : ∀ w, Pipeline.arrRef spec0 w ≠ main_v14))

/-- The region leaves the global scale as it was. -/
theorem same_v19 (c : Dev nD) : Value.exitV m c (Proc.devRef .tc main_v19) = Gen.V0 m c (Proc.devRef .tc main_v19) :=
  Pipeline.withArrays_of_ne _ c (Gen.V0 m c) _ main_v19 (by exact (by decide : ∀ w, Pipeline.arrRef spec0 w ≠ main_v19))

/-- A scale of the reference. -/
theorem scales_apply (x : FVec Ideal S16x4096x2048 .bf16) (s : EReal) (a : Fin 16) (b : Fin 4096) (g : Fin 128) :
    (scales (rotated x) (fun _ => s) (ix3 a b g) : EReal) = scl s (chansAll (flat x) (4096 * a.val + b.val)) g.val := by
  have h := block_max x a b g
  unfold scales
  generalize Host.reduce _ (Host.absf (rotated x)) _ _ _ = y at h ⊢
  pointwise
  unfold scl
  rw [h]

/-- The region writes what it reads, in the scales' format. -/
theorem out1 (x : FVec Ideal S16x4096x128 .f32) : out0_1 (F := Ideal) x = x := by
  unfold out0_1
  rw [View.canon_cons_unit_zero (by decide), View.ld_unit_zero (by decide)]
  exact shapeCast_self _ _

/-- And again, cast back. -/
theorem out2 (x : FVec Ideal S16x4096x128 .f32) : out0_2 (F := Ideal) x = x := by
  unfold out0_2
  rw [View.canon_cons_unit_zero (by decide), View.ld_unit_zero (by decide)]
  exact shapeCast_self _ _

/-- The one block of result 1 is the whole of it. -/
theorem covers1 : (cfg0.win 1).Covers :=
  (cfg0.win 1).covers_of_index_surj rfl (by decide) fun β =>
    ⟨⟨0, by decide⟩, fun a => by
      match a with
      | ⟨0, h⟩ =>
        have := lt_of_lt_of_eq (β ⟨0, h⟩).isLt (by decide : (cfg0.win 1).nblk ⟨0, by decide⟩ = 1)
        exact (Nat.lt_one_iff.1 this).symm
      | ⟨1, h⟩ =>
        have := lt_of_lt_of_eq (β ⟨1, h⟩).isLt (by decide : (cfg0.win 1).nblk ⟨1, by decide⟩ = 1)
        exact (Nat.lt_one_iff.1 this).symm
      | ⟨2, h⟩ =>
        have := lt_of_lt_of_eq (β ⟨2, h⟩).isLt (by decide : (cfg0.win 1).nblk ⟨2, by decide⟩ = 1)
        exact (Nat.lt_one_iff.1 this).symm⟩

/-- The one block of result 2 is the whole of it. -/
theorem covers2 : (cfg0.win 2).Covers :=
  (cfg0.win 2).covers_of_index_surj rfl (by decide) fun β =>
    ⟨⟨0, by decide⟩, fun a => by
      match a with
      | ⟨0, h⟩ =>
        have := lt_of_lt_of_eq (β ⟨0, h⟩).isLt (by decide : (cfg0.win 2).nblk ⟨0, by decide⟩ = 1)
        exact (Nat.lt_one_iff.1 this).symm
      | ⟨1, h⟩ =>
        have := lt_of_lt_of_eq (β ⟨1, h⟩).isLt (by decide : (cfg0.win 2).nblk ⟨1, by decide⟩ = 1)
        exact (Nat.lt_one_iff.1 this).symm
      | ⟨2, h⟩ =>
        have := lt_of_lt_of_eq (β ⟨2, h⟩).isLt (by decide : (cfg0.win 2).nblk ⟨2, by decide⟩ = 1)
        exact (Nat.lt_one_iff.1 this).symm⟩

/-- The block the region reads is the whole of its array. -/
theorem block (t : Fin cfg0.N) (Y : FVec Ideal S16x4096x128 .f32) :
    (((cfg0.win 0).blk t).view.read (Elt Ideal) Y : FVec Ideal S16x4096x128 .f32) = Y := by
  funext y
  show Y ((win0_0.blk t).view.emb y) = Y y
  refine congrArg Y (funext fun a => Fin.ext ?_)
  match a with
  | ⟨0, _⟩ => show 0 * 16 + 1 * (y 0).val = (y 0).val; omega
  | ⟨1, _⟩ => show 0 * 4096 + 1 * (y 1).val = (y 1).val; omega
  | ⟨2, _⟩ => show 0 * 128 + 1 * (y 2).val = (y 2).val; omega

/-- What the region reads, for any contents of its array. -/
theorem iblk_eq (c : Dev nD) (t : Fin cfg0.N) (Y : FVec Ideal S16x4096x128 .f32) (hY : Gen.V m c (Pipeline.arrRef spec0 0) = Y) :
    iblk m c 0 t = Y := by
  unfold iblk
  rw [hY]
  exact block t Y

/-- The block scales the reference stores. -/
theorem region1 (c : Dev nD) (Y : FVec Ideal S16x4096x128 .f32) (hY : Gen.V m c (Pipeline.arrRef spec0 0) = Y) :
    Value.reg_main_v26_0 m c = (Y : FVec Ideal S16x4096x128 .fp8e4m3) := by
  refine (Gen.dats m 0 c).arrAt_eq_of_covers 1 _ covers1 fun t hf y => ?_
  rw [after0_1, out1, iblk_eq m c t Y hY]
  show Y y = Y ((win0_1.blk t).view.emb y)
  refine congrArg Y (funext fun a => Fin.ext ?_)
  match a with
  | ⟨0, _⟩ => show (y 0).val = 0 * 16 + 1 * (y 0).val; omega
  | ⟨1, _⟩ => show (y 1).val = 0 * 4096 + 1 * (y 1).val; omega
  | ⟨2, _⟩ => show (y 2).val = 0 * 128 + 1 * (y 2).val; omega

/-- The block scales the reference divides by. -/
theorem region2 (c : Dev nD) (Y : FVec Ideal S16x4096x128 .f32) (hY : Gen.V m c (Pipeline.arrRef spec0 0) = Y) :
    Value.reg_main_v26_1 m c = Y := by
  refine (Gen.dats m 0 c).arrAt_eq_of_covers 2 _ covers2 fun t hf y => ?_
  rw [after0_2, out2, iblk_eq m c t Y hY]
  show Y y = Y ((win0_2.blk t).view.emb y)
  refine congrArg Y (funext fun a => Fin.ext ?_)
  match a with
  | ⟨0, _⟩ => show (y 0).val = 0 * 16 + 1 * (y 0).val; omega
  | ⟨1, _⟩ => show (y 1).val = 0 * 4096 + 1 * (y 1).val; omega
  | ⟨2, _⟩ => show (y 2).val = 0 * 128 + 1 * (y 2).val; omega

end Cert.Proof.RefRun

end
-- ==== Proof.Quant.lean ====
/-
  The quantising kernel's two results over the whole arrays: every byte and every scale, as a function
  of the rows, the weights and the global scale it is given.
-/
module

public import proofs.«01_k».proof.Proof.Max
public import Idealize.ShloMosaic.Lib.Pipeline.Covers

@[expose] public section
set_option maxRecDepth 16384
noncomputable section
open Idealize.ShloMosaic Idealize.ShloMosaic.TcCoe Idealize.SL.Sem

namespace Cert.Proof.Quant
open Cert.KernelIdeal Cert.KernelIdeal.Gen Cert.Proof.Rotate Cert.Proof.Sub Cert.Proof.Body Cert.Proof.Max

variable (V : (c : Dev nD) → (b : Ref sig .tc) → Buf (Elt Ideal) ((c : Thread nD τ).loc b)) (c : Dev nD)

/-- Grid point `t` reads the t-th block of rows. -/
theorem index_row1 : ∀ t : Fin cfg1.N, win1_1.index t 0 = t.val := by decide +kernel
/-- It writes the t-th block of packed bytes. -/
theorem index_row3 : ∀ t : Fin cfg1.N, win1_3.index t 0 = t.val := by decide +kernel
/-- It writes the t-th block of block scales. -/
theorem index_row4 : ∀ t : Fin cfg1.N, win1_4.index t 0 = t.val := by decide +kernel

/-- Grid point `t` sees rows `512 t` onwards. -/
theorem block_chans (t : Fin cfg1.N) (r : ℕ) (hr : r < 512) :
    chans512 (iblk1 (F := Ideal) V c 1 t) r = chansAll (V c main_v0) (512 * t.val + r) := by
  have ht : t.val < 128 := t.isLt
  funext n
  unfold chans512 chansAll
  by_cases hn : n < 2048
  · have hR : 512 * t.val + r < 65536 := by omega
    rw [dif_pos ⟨hr, hn⟩, dif_pos ⟨hR, hn⟩]
    blk_simp [iblk1]
    refine congrArg (V c main_v0) (funext fun a => Fin.ext ?_)
    match a with
    | ⟨0, _⟩ =>
      show win1_1.index t 0 * 512 + 1 * r = 512 * t.val + r
      rw [index_row1]; omega
    | ⟨1, _⟩ =>
      show win1_1.index t 1 * 2048 + 1 * n = n
      rw [show win1_1.index t 1 = 0 from rfl]; omega
  · rw [dif_neg (fun h => hn h.2), dif_neg (fun h => hn h.2)]

/-- Every grid point sees the whole weights. -/
theorem block_weights (hw : V c main_cst = weights) (t : Fin cfg1.N) : iblk1 (F := Ideal) V c 2 t = weights := by
  rw [← hw]
  funext j
  blk_simp [iblk1]
  refine congrArg (V c main_cst) (funext fun a => Fin.ext ?_)
  match a with
  | ⟨0, _⟩ =>
    show win1_2.index t 0 * 256 + 1 * (j 0).val = (j 0).val
    rw [show win1_2.index t 0 = 0 from rfl]; omega
  | ⟨1, _⟩ =>
    show win1_2.index t 1 * 256 + 1 * (j 1).val = (j 1).val
    rw [show win1_2.index t 1 = 0 from rfl]; omega

/-- Every grid point sees the global scale. -/
theorem block_scale (t : Fin cfg1.N) : (iblk1 (F := Ideal) V c 0 t (ix2 0 0) : EReal) = V c main_v6 (ix2 0 0) := by
  blk_simp [iblk1]
  refine congrArg (V c main_v6) (funext fun a => Fin.ext ?_)
  match a with
  | ⟨0, _⟩ => rfl
  | ⟨1, _⟩ => rfl

/-- The blocks of packed bytes make up their array. -/
theorem covers3 : (cfg1.win 3).Covers :=
  (cfg1.win 3).covers_of_index_surj rfl (by decide) fun β =>
    ⟨⟨(β ⟨0, Nat.zero_lt_two⟩).val, (β ⟨0, Nat.zero_lt_two⟩).isLt.trans_eq (by decide : (cfg1.win 3).nblk ⟨0, Nat.zero_lt_two⟩ = 128)⟩, fun a => by
      match a with
      | ⟨0, _⟩ => exact index_row3 _
      | ⟨1, h⟩ =>
        have := lt_of_lt_of_eq (β ⟨1, h⟩).isLt (by decide : (cfg1.win 3).nblk ⟨1, Nat.one_lt_two⟩ = 1)
        exact (Nat.lt_one_iff.1 this).symm⟩

/-- The blocks of scales make up their array. -/
theorem covers4 : (cfg1.win 4).Covers :=
  (cfg1.win 4).covers_of_index_surj rfl (by decide) fun β =>
    ⟨⟨(β ⟨0, Nat.zero_lt_two⟩).val, (β ⟨0, Nat.zero_lt_two⟩).isLt.trans_eq (by decide : (cfg1.win 4).nblk ⟨0, Nat.zero_lt_two⟩ = 128)⟩, fun a => by
      match a with
      | ⟨0, _⟩ => exact index_row4 _
      | ⟨1, h⟩ =>
        have := lt_of_lt_of_eq (β ⟨1, h⟩).isLt (by decide : (cfg1.win 4).nblk ⟨1, Nat.one_lt_two⟩ = 1)
        exact (Nat.lt_one_iff.1 this).symm⟩

/-- Every byte of the packed array. -/
theorem codes (hw : V c main_cst = weights) : (dat1 (F := Ideal) V c).arrAt 3 cfg1.N
    = (fun j : S65536x1024.Idx => byte (V c main_v6 (ix2 0 0)) (chansAll (V c main_v0) (j 0).val) (j 1).val) := by
  refine (dat1 (F := Ideal) V c).arrAt_eq_of_covers 3 _ covers3 fun t hf y => ?_
  have e0 : ((win1_3.blk t).view.emb y 0 : ℕ) = 512 * t.val + (y 0).val := by
    show win1_3.index t 0 * 512 + 1 * (y 0).val = _
    rw [index_row3]; omega
  have e1 : ((win1_3.blk t).view.emb y 1 : ℕ) = (y 1).val := by
    show win1_3.index t 1 * 1024 + 1 * (y 1).val = _
    rw [show win1_3.index t 1 = 0 from rfl]; omega
  show (outsAt1 (F := Ideal) V c t).1 y = byte (V c main_v6 (ix2 0 0)) (chansAll (V c main_v0) ((win1_3.blk t).view.emb y 0 : ℕ)) ((win1_3.blk t).view.emb y 1 : ℕ)
  rw [e0, e1]
  unfold outsAt1
  dsimp only
  rw [block_weights V c hw, out_codes, block_scale, block_chans _ _ _ _ (y 0).isLt]

/-- Every block scale. -/
theorem scales (hw : V c main_cst = weights) : (dat1 (F := Ideal) V c).arrAt 4 cfg1.N
    = (fun j : S65536x128.Idx => scl (V c main_v6 (ix2 0 0)) (chansAll (V c main_v0) (j 0).val) (j 1).val) := by
  refine (dat1 (F := Ideal) V c).arrAt_eq_of_covers 4 _ covers4 fun t hf y => ?_
  have e0 : ((win1_4.blk t).view.emb y 0 : ℕ) = 512 * t.val + (y 0).val := by
    show win1_4.index t 0 * 512 + 1 * (y 0).val = _
    rw [index_row4]; omega
  have e1 : ((win1_4.blk t).view.emb y 1 : ℕ) = (y 1).val := by
    show win1_4.index t 1 * 128 + 1 * (y 1).val = _
    rw [show win1_4.index t 1 = 0 from rfl]; omega
  show ((outsAt1 (F := Ideal) V c t).2 y : EReal) = scl (V c main_v6 (ix2 0 0)) (chansAll (V c main_v0) ((win1_4.blk t).view.emb y 0 : ℕ)) ((win1_4.blk t).view.emb y 1 : ℕ)
  rw [e0, e1]
  unfold outsAt1
  dsimp only
  rw [block_weights V c hw, out_scales, block_scale, block_chans _ _ _ _ (y 0).isLt]

end Cert.Proof.Quant
end
-- ==== Proof.KernelRun.lean ====
/-
  The whole kernel, run: its three results in closed form, for any input.
-/
module

public import proofs.«01_k».proof.Proof.Quant
public import proofs.«01_k».proof.Proof.Global

@[expose] public section
set_option maxRecDepth 16384
noncomputable section

namespace Cert.Proof.KernelRun
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the three results at the contents the last stretch of the program leaves,
    and with the argument as it was. -/
theorem run_last : θ_run defs (onTc (τ := τ) (main (F := F))) ⟨m, fun _ => 0, ρ⟩ (fun r => ∀ c : Dev nD,
      r.2.mem ((c.tc : Thread nD τ).loc main_v8) = W7 m ρ c (Proc.devRef .tc main_v8)
      ∧ r.2.mem ((c.tc : Thread nD τ).loc main_v9) = W7 m ρ c (Proc.devRef .tc main_v9)
      ∧ r.2.mem ((c.tc : Thread nD τ).loc main_v5) = W7 m ρ c (Proc.devRef .tc main_v5)
      ∧ r.2.mem ((c.tc : Thread nD τ).loc main_arg0) = m ((c.tc : Thread nD τ).loc main_arg0)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz c => ⟨h c _ (mem_uc main_v8 (by decide)), h c _ (mem_uc main_v9 (by decide)),
      h c _ (mem_uc main_v5 (by decide)), (h c _ (mem_uc main_arg0 (by decide))).trans (W7_main_arg0 m ρ c)⟩)

end

open Cert.Proof.Rotate Cert.Proof.Sub Cert.Proof.Body Cert.Proof.Max Cert.Proof.Global Idealize.ShloMosaic.StableHlo

variable (m : (ℓ : Loc nD τ sig) → Buf (Elt Ideal) ℓ) (ρ : Dev nD → PrngReg) (c : Dev nD)

/-- The input, as 65536 rows. -/
abbrev input : FVec Ideal S65536x2048 .bf16 :=
  shapeCast S65536x2048 (m ((c : Thread nD τ).loc main_arg0)) shapeCasts_S16x4096x2048_S65536x2048

/-- The maximum kernel is given the rotation's weights. -/
theorem weights1 : V1 m ρ c main_cst = weights := by
  show after hostOps0 (W0 m ρ c) _ = _
  after_results
  rfl

/-- The maximum kernel is given the input as 65536 rows. -/
theorem input1 : V1 m ρ c main_v0 = input m c := by
  show after hostOps0 (W0 m ρ c) _ = _
  after_results
  rfl

/-- The quantising kernel is given the same weights. -/
theorem weights5 : V5 m ρ c main_cst = weights :=
  (W5_of m ρ c main_cst (by decide)).trans ((W4_of m ρ c main_cst (by decide)).trans ((W3_of m ρ c main_cst (by decide)).trans
    ((W2_of m ρ c main_cst (by decide)).trans (weights1 m ρ c))))

/-- The quantising kernel is given the same rows. -/
theorem input5 : V5 m ρ c main_v0 = input m c :=
  (W5_of m ρ c main_v0 (by decide)).trans ((W4_of m ρ c main_v0 (by decide)).trans ((W3_of m ρ c main_v0 (by decide)).trans
    ((W2_of m ρ c main_v0 (by decide)).trans (input1 m ρ c))))

/-- The running maxima the first kernel leaves. -/
abbrev maxima : FVec Ideal S8x128 .f32 := (dat0 (F := Ideal) (V1 m ρ) c).arrAt 2 cfg0.N

/-- The maxima the first kernel leaves. -/
theorem maxima2 : W2 m ρ c (Proc.devRef .tc main_v1) = maxima m ρ c := W2_arr m ρ c 2

/-- The kernel's maximum over its block of running maxima is the greatest magnitude of all rotated channels. -/
theorem maxima_reduce (j : S_.Idx) :
    (Host.reduce (FloatOps.maximumf (F := Ideal) (φ := .f32)) (maxima m ρ c) (constant (F := Ideal) S_ .f32 0xFF800000#32)
      reducesTo_S8x128_S_d0_1 h_S_ j : EReal) = amax (input m c) := by
  refine eq_of_forall_ge_iff fun B => (reduce_max_le _ _ _ _ (fun a b => funext fun i => i.elim0) _ rfl B).trans ?_
  have h127 : 127 < cfg0.N := by rw [show cfg0.N = 128 from N_0]; decide
  rw [amax_le, ← input1 m ρ c, ← last_le (V1 m ρ) c (weights1 m ρ c) B h127, show maxima m ρ c = _ from Max.result (V1 m ρ) c h127]
  exact ⟨fun h a l => h (ix2 a l), fun h i => ix2_eta i ▸ h (i 0) (i 1)⟩

/-- The kernel's one maximum, as the host reduces it. -/
abbrev top : FVec Ideal S_ .f32 :=
  Host.reduce (FloatOps.maximumf (F := Ideal) (φ := .f32)) (maxima m ρ c) (constant (F := Ideal) S_ .f32 0xFF800000#32) reducesTo_S8x128_S_d0_1 h_S_

/-- Whether the greatest magnitude is positive. -/
theorem positive3 : W3 m ρ c (Proc.devRef .tc main_v3) = cmpf (F := Ideal) .ogt (top m ρ c) (constant (F := Ideal) S_ .f32 0x00000000#32) := by
  unfold top
  rw [← maxima2 m ρ c]
  show after hostOps1 (W2 m ρ c) _ = _
  generalize W2 m ρ c = W
  after_results

/-- The greatest magnitude over 2688. -/
theorem quotient3 : W3 m ρ c (Proc.devRef .tc main_v4) = Host.divf (top m ρ c) (constant (F := Ideal) S_ .f32 0x45280000#32) := by
  unfold top
  rw [← maxima2 m ρ c]
  show after hostOps1 (W2 m ρ c) _ = _
  generalize W2 m ρ c = W
  after_results

/-- The scale of an input that is zero everywhere. -/
theorem one3 : W3 m ρ c (Proc.devRef .tc main_cst_3) = constant (F := Ideal) S_ .f32 0x3F800000#32 := by
  show after hostOps1 (W2 m ρ c) _ = _
  generalize W2 m ρ c = W
  after_results

/-- The global scale. -/
theorem scale4 : W4 m ρ c (Proc.devRef .tc main_v5) = (fun _ : S_.Idx => glob (amax (input m c))) := by
  have h : W4 m ρ c (Proc.devRef .tc main_v5)
      = select (W3 m ρ c (Proc.devRef .tc main_v3)) (W3 m ρ c (Proc.devRef .tc main_v4)) (W3 m ρ c (Proc.devRef .tc main_cst_3)) := by
    show after hostOps1_1 (W3 m ρ c) _ = _
    generalize W3 m ρ c = W
    after_results
    rfl
  rw [h, positive3, quotient3, one3]
  exact glob_eq _ _ (maxima_reduce m ρ c)

/-- The global scale as the quantising kernel is given it. -/
theorem scale5 : V5 m ρ c main_v6 (ix2 0 0) = glob (amax (input m c)) := by
  have h : V5 m ρ c main_v6 = shapeCast S1x1 (W4 m ρ c (Proc.devRef .tc main_v5)) shapeCasts_S_S1x1 := by
    show after hostOps1_2 (W4 m ρ c) _ = _
    generalize W4 m ρ c = W
    after_results
    rfl
  rw [h, scale4]
  rfl

/-- The global scale as it is returned. -/
theorem scale7 : W7 m ρ c (Proc.devRef .tc main_v5) = (fun _ : S_.Idx => glob (amax (input m c))) :=
  (W7_of m ρ c main_v5 (by decide)).trans ((W6_of m ρ c main_v5 (by decide)).trans ((W5_of m ρ c main_v5 (by decide)).trans (scale4 m ρ c)))

/-- The packed bytes of an input. -/
def packedOf (x : FVec Ideal S65536x2048 .bf16) : IVec S65536x1024 8 :=
  fun j => byte (glob (amax x)) (chansAll x (j 0).val) (j 1).val

/-- The block scales of an input. -/
def scalesOf (x : FVec Ideal S65536x2048 .bf16) : FVec Ideal S65536x128 .fp8e4m3 :=
  fun j => scl (glob (amax x)) (chansAll x (j 0).val) (j 1).val

/-- The packed bytes as they are returned. -/
theorem packed7 : W7 m ρ c (Proc.devRef .tc main_v8)
    = shapeCast S16x4096x1024 (packedOf (input m c)) shapeCasts_S65536x1024_S16x4096x1024 := by
  have h : W7 m ρ c (Proc.devRef .tc main_v8)
      = shapeCast S16x4096x1024 (W6 m ρ c (Proc.devRef .tc main_v7_0)) shapeCasts_S65536x1024_S16x4096x1024 := by
    show after hostOps2 (W6 m ρ c) _ = _
    generalize W6 m ρ c = W
    after_results
    rfl
  rw [h, show W6 m ρ c (Proc.devRef .tc main_v7_0) = _ from W6_arr m ρ c 3, Quant.codes _ c (weights5 m ρ c), scale5, input5]
  rfl

/-- The block scales as they are returned. -/
theorem scales7 : W7 m ρ c (Proc.devRef .tc main_v9)
    = shapeCast S16x4096x128 (scalesOf (input m c)) shapeCasts_S65536x128_S16x4096x128 := by
  have h : W7 m ρ c (Proc.devRef .tc main_v9)
      = shapeCast S16x4096x128 (W6 m ρ c (Proc.devRef .tc main_v7_1)) shapeCasts_S65536x128_S16x4096x128 := by
    show after hostOps2 (W6 m ρ c) _ = _
    generalize W6 m ρ c = W
    after_results
    rfl
  rw [h, show W6 m ρ c (Proc.devRef .tc main_v7_1) = _ from W6_arr m ρ c 4, Quant.scales _ c (weights5 m ρ c), scale5, input5]
  rfl

/-- The whole kernel, run: the packed bytes, the block scales and the global scale of the input. -/
theorem run : θ_run defs (onTc (τ := τ) (main (F := Ideal))) ⟨m, fun _ => 0, ρ⟩ (fun r => ∀ c : Dev nD,
      r.2.mem ((c.tc : Thread nD τ).loc main_v8) = shapeCast S16x4096x1024 (packedOf (input m c)) shapeCasts_S65536x1024_S16x4096x1024
      ∧ r.2.mem ((c.tc : Thread nD τ).loc main_v9) = shapeCast S16x4096x128 (scalesOf (input m c)) shapeCasts_S65536x128_S16x4096x128
      ∧ r.2.mem ((c.tc : Thread nD τ).loc main_v5) = (fun _ : S_.Idx => glob (amax (input m c)))
      ∧ r.2.mem ((c.tc : Thread nD τ).loc main_arg0) = m ((c.tc : Thread nD τ).loc main_arg0)) :=
  (θ_run defs _ _).mono (fun _ h c => ⟨(h c).1.trans (packed7 m ρ c), (h c).2.1.trans (scales7 m ρ c),
    (h c).2.2.1.trans (scale7 m ρ c), (h c).2.2.2⟩) (run_last m ρ)

end Cert.Proof.KernelRun
end
-- ==== Proof.Equal.lean ====
/-
  The reference, run, leaves what the kernel leaves.
-/
module

public import proofs.«01_k».proof.Defs
public import proofs.«01_k».proof.Proof.RefCode
public import proofs.«01_k».proof.Proof.RefRun
public import proofs.«01_k».proof.Proof.KernelRun

@[expose] public section

set_option maxRecDepth 16384

noncomputable section

open Idealize.ShloMosaic Idealize.ShloMosaic.TcCoe Idealize.SL.Sem

namespace Cert.Proof.Equal
open Cert.ReferenceIdeal Cert.ReferenceIdeal.Gen Cert.ReferenceIdeal.Read Cert.Proof.Rotate Cert.Proof.Sub Cert.Proof.Body Cert.Proof.Max
  Cert.Proof.Global Cert.Proof.RefRotate Cert.Proof.RefRun Cert.Proof.KernelRun

/-- The kernel's packed bytes of an input. -/
abbrev packedK (x : FVec Ideal S16x4096x2048 .bf16) : IVec S16x4096x1024 8 :=
  shapeCast Cert.KernelIdeal.S16x4096x1024 (packedOf (flat x)) Cert.KernelIdeal.Gen.facts.shapeCasts_S65536x1024_S16x4096x1024

/-- The kernel's block scales of an input. -/
abbrev scalesK (x : FVec Ideal S16x4096x2048 .bf16) : FVec Ideal S16x4096x128 .fp8e4m3 :=
  shapeCast Cert.KernelIdeal.S16x4096x128 (scalesOf (flat x)) Cert.KernelIdeal.Gen.facts.shapeCasts_S65536x128_S16x4096x128

/-- A block scale, at row `b` of slice `a`. -/
theorem scale_at (x : FVec Ideal S16x4096x2048 .bf16) (a : Fin 16) (b : Fin 4096) (g : Fin 128) :
    (RefRun.scales (rotated x) (fun _ => glob (amax (flat x))) (ix3 a b g) : EReal) = scalesK x (ix3 a b g) := by
  rw [scales_apply]
  have ha := a.isLt
  have hb := b.isLt
  have hg := g.isLt
  unfold scalesK
  generalize hz : scalesOf (flat x) = z
  pointwise
  subst hz
  show scl _ (chansAll (flat x) (4096 * a.val + b.val)) g.val = scl _ (chansAll (flat x) (a.val * 4096 + b.val)) g.val
  rw [Nat.mul_comm]

/-- The reference's block scales are the kernel's. -/
theorem scales_eq (x : FVec Ideal S16x4096x2048 .bf16) :
    (RefRun.scales (rotated x) (fun _ => glob (amax (flat x))) : S16x4096x128.Idx → EReal) = scalesK x := by
  funext j
  rw [← ix3_eta j]
  exact scale_at x (j 0) (j 1) (j 2)

/-- A packed byte, at row `b` of slice `a`. -/
theorem packed_at (x : FVec Ideal S16x4096x2048 .bf16) (a : Fin 16) (b : Fin 4096) (n : Fin 1024) :
    val_main_v88 (F := Ideal) (RefRun.scales (rotated x) (fun _ => glob (amax (flat x)))) (fun _ => glob (amax (flat x))) (rotated x) (ix3 a b n)
      = packedK x (ix3 a b n) := by
  rw [RefCode.packed_word, scales_apply, rotated_apply, rotated_apply]
  have ha := a.isLt
  have hb := b.isLt
  have hn := n.isLt
  unfold packedK
  generalize hz : packedOf (flat x) = z
  pointwise
  subst hz
  show _ = byte _ (chansAll (flat x) (a.val * 4096 + b.val)) n.val
  rw [Nat.mul_comm a.val 4096]
  rfl

/-- The reference's packed bytes are the kernel's. -/
theorem packed_eq (x : FVec Ideal S16x4096x2048 .bf16) :
    val_main_v88 (F := Ideal) (RefRun.scales (rotated x) (fun _ => glob (amax (flat x)))) (fun _ => glob (amax (flat x))) (rotated x) = packedK x := by
  funext j
  rw [← ix3_eta j]
  exact packed_at x (j 0) (j 1) (j 2)

section
variable (m : (ℓ : Loc nD τ sig) → Buf (Elt Ideal) ℓ)

/-- The array the region reads: the block scales. -/
theorem entry (c : Dev nD) : Gen.V m c (Pipeline.arrRef spec0 0)
    = RefRun.scales (rotated (RefRun.input m c)) (fun _ => glob (amax (flat (RefRun.input m c)))) := by
  refine (in_v25 m c).trans ?_
  rw [← same_v14, ← same_v19, in_v14, in_v19]

/-- The reference's packed bytes. -/
theorem packed_run (c : Dev nD) : val_main_v88 (F := Ideal) (Value.exitV m c (Proc.devRef .tc main_v26_1))
    (Value.exitV m c (Proc.devRef .tc main_v19)) (Value.exitV m c (Proc.devRef .tc main_v14)) = packedK (RefRun.input m c) := by
  have h1 : Value.exitV m c (Proc.devRef .tc main_v26_1) = _ := (Value.exit_main_v26_1 m c).trans (region2 m c _ (entry m c))
  rw [h1, in_v14, in_v19]
  exact packed_eq _

/-- The reference's block scales. -/
theorem scales_run (c : Dev nD) : Value.reg_main_v26_0 m c = scalesK (RefRun.input m c) :=
  (region1 m c _ (entry m c)).trans (scales_eq _)

/-- The whole reference, run: the results of the kernel on the same input. -/
theorem run (ρ : Dev nD → PrngReg) : θ_run defs (onTc (τ := τ) (main (F := Ideal))) ⟨m, fun _ => 0, ρ⟩ (fun r => ∀ c : Dev nD,
      r.2.mem ((c.tc : Thread nD τ).loc main_v88) = packedK (RefRun.input m c)
      ∧ r.2.mem ((c.tc : Thread nD τ).loc main_v26_0) = scalesK (RefRun.input m c)
      ∧ r.2.mem ((c.tc : Thread nD τ).loc main_v19) = (fun _ : S_.Idx => glob (amax (flat (RefRun.input m c))))
      ∧ r.2.mem ((c.tc : Thread nD τ).loc main_arg0) = m ((c.tc : Thread nD τ).loc main_arg0)) :=
  (θ_run defs _ _).mono (fun _ h c => ⟨((h c).1.trans (val_main_v88_eq (Value.exitV m c))).trans (packed_run m c),
    (h c).2.1.trans (scales_run m c), (h c).2.2.1.trans ((Value.exit_main_v19 m c).symm.trans (in_v19 m c)), (h c).2.2.2⟩) (Value.run m ρ)

end

/-- Run on the same input, the kernel and the reference leave the same packed bytes, block scales and global scale. -/
theorem algebraic : Cert.algebraic_KernelIdeal_ReferenceIdeal
    (hKernelIdeal := Cert.KernelIdeal.Gen.facts) (hReferenceIdeal := Cert.ReferenceIdeal.Gen.facts) := by
  intro m g m' g' _ hm
  refine ⟨fun c => packedK ((m ((c.tc : Thread Cert.KernelIdeal.nD Cert.KernelIdeal.τ).loc Cert.KernelIdeal.main_arg0))), fun c => scalesK ((m ((c.tc : Thread Cert.KernelIdeal.nD Cert.KernelIdeal.τ).loc Cert.KernelIdeal.main_arg0))), fun c => fun _ => glob (amax (flat ((m ((c.tc : Thread Cert.KernelIdeal.nD Cert.KernelIdeal.τ).loc Cert.KernelIdeal.main_arg0))))), ?_, ?_⟩
  · exact KernelRun.run m g
  · refine (θ_run _ _ _).mono (fun _ h c => ?_) (run m' g')
    have e : RefRun.input m' c = (m ((c.tc : Thread Cert.KernelIdeal.nD Cert.KernelIdeal.τ).loc Cert.KernelIdeal.main_arg0)) := hm c
    have h' := h c
    rw [e] at h'
    exact h'

end Cert.Proof.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Everything claimed of the kernel and of the reference: each runs and leaves its argument and the semaphores as they
    were, and on the same input the two end with equal results. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, fun m g _ => Cert.ReferenceIdeal.Gen.frame m g,
  trivial, Equal.algebraic⟩

end Cert.Proof

end
